-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)

variable [Facts]

def fn {F : FTy → Type} [FloatOps F] (main_arg0 : FVec F S256x512 .f32) (main_arg1 : FVec F S512x4096 .f32) : IVec S256x512 1 × IVec S512x4096 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  (main_v2, main_v5)
-- ==== Pre_finite_inputs_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  bcast_S_S512x8192 : S_.BroadcastsInDim S512x8192 (![] : Fin 0 → Fin S512x8192.rank)

variable [Facts]

def fn {F : FTy → Type} [FloatOps F] (main_arg0 : FVec F S256x512 .f32) (main_arg1 : FVec F S512x8192 .f32) : IVec S256x512 1 × IVec S512x8192 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x8192 .f32 := Host.absf main_arg1
  let main_cst_0 : FVec F S_ .f32 := constant S_ .f32 0x7F800000#32
  let main_v4 : FVec F S512x8192 .f32 := broadcastInDim S512x8192 ![] bcast_S_S512x8192 main_cst_0
  let main_v5 : IVec S512x8192 1 := cmpf .olt main_v3 main_v4
  (main_v2, main_v5)
-- ==== Kernel.lean ====
abbrev S256x512 : Shape := ⟨2, ![256, 512]⟩
abbrev S512x4096 : Shape := ⟨2, ![512, 4096]⟩
abbrev S256x8192 : Shape := ⟨2, ![256, 8192]⟩
abbrev S2x512x1024 : Shape := ⟨3, ![2, 512, 1024]⟩
abbrev S256x4096 : Shape := ⟨2, ![256, 4096]⟩
abbrev S256x128 : Shape := ⟨2, ![256, 128]⟩
abbrev S_ : Shape := ⟨0, ![]⟩
abbrev S2 : Shape := ⟨1, ![2]⟩
abbrev S17 : Shape := ⟨1, ![17]⟩
abbrev S6 : Shape := ⟨1, ![6]⟩
abbrev S4 : Shape := ⟨1, ![4]⟩
abbrev S1 : Shape := ⟨1, ![1]⟩
abbrev S1x512x256 : Shape := ⟨3, ![1, 512, 256]⟩
abbrev S512x256 : Shape := ⟨2, ![512, 256]⟩
abbrev S256x1 : Shape := ⟨2, ![256, 1]⟩
abbrev S256x256 : Shape := ⟨2, ![256, 256]⟩
abbrev S256 : Shape := ⟨1, ![256]⟩
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .bf16⟩
  | .local _ .vmem, ⟨0, _⟩ => ⟨S256x512, .f32⟩
  | .local _ .vmem, ⟨1, _⟩ => ⟨S2x512x1024, .f32⟩
  | .local _ .vmem, ⟨2, _⟩ => ⟨S256x4096, .bf16⟩
  | .local _ .vmem, ⟨3, _⟩ => ⟨S256x4096, .bf16⟩
  | .local _ .vmem, ⟨4, _⟩ => ⟨S256x128, .bf16⟩
  | .local _ .vmem, ⟨5, _⟩ => ⟨S256x128, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let c0_i32_21 : BitVec 32 := 0#32
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c1024_i32 : BitVec 32 := 1024#32
  let v14 : BitVec 32 := Scalar.muli v13 c1024_i32
  let v28 : BitVec 32 := Scalar.addi v14 c0_i32
  ![0, v28.toNat]
def k0_dev1 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v38 : BitVec 32 := Scalar.muli v2 c4_i32_23
  let v39 : BitVec 32 := Scalar.addi c0_i32_24 v38
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_25 : BitVec 32 := 2#32
  let v40 : BitVec 32 := Scalar.muli v9 c2_i32_25
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v42 : BitVec 32 := Scalar.muli v8 c1_i32_26
  let v43 : BitVec 32 := Scalar.addi v41 v42
  v43.toNat
def k0_dev2 (d0 : Dev nD) : Nat :=
  let c0_i32_29 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_28 : BitVec 32 := 4#32
  let v44 : BitVec 32 := Scalar.muli v10 c4_i32_28
  let v45 : BitVec 32 := Scalar.addi c0_i32_29 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v46 : BitVec 32 := Scalar.muli v5 c2_i32_30
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v48 : BitVec 32 := Scalar.muli v8 c1_i32_31
  let v49 : BitVec 32 := Scalar.addi v47 v48
  v49.toNat
def k0_dev3 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v50 : BitVec 32 := Scalar.muli v2 c4_i32_33
  let v51 : BitVec 32 := Scalar.addi c0_i32_34 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v52 : BitVec 32 := Scalar.muli v5 c2_i32_35
  let v53 : BitVec 32 := Scalar.addi v51 v52
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_36 : BitVec 32 := 1#32
  let v54 : BitVec 32 := Scalar.muli v11 c1_i32_36
  let v55 : BitVec 32 := Scalar.addi v53 v54
  v55.toNat
def k0_off2 (d0 : Dev nD) (c0_i32 : BitVec 32) : Fin 2 → Nat :=
  let c0_52 : Index := 0#32
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c1024_i32 : BitVec 32 := 1024#32
  let v14 : BitVec 32 := Scalar.muli v13 c1024_i32
  let v28 : BitVec 32 := Scalar.addi v14 c0_i32
  let v75 : Index := Scalar.indexCast v28
  ![0, v75.toNat]
def k0_off3 (d0 : Dev nD) (c0_i32_53 : BitVec 32) : Fin 2 → Nat :=
  let c0_i32_60 : BitVec 32 := 0#32
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c1024_i32 : BitVec 32 := 1024#32
  let v14 : BitVec 32 := Scalar.muli v13 c1024_i32
  let v79 : BitVec 32 := Scalar.addi v14 c0_i32_53
  ![0, v79.toNat]
def k0_dev4 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v80 : BitVec 32 := Scalar.muli v2 c4_i32_56
  let v81 : BitVec 32 := Scalar.addi c0_i32_57 v80
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_58 : BitVec 32 := 2#32
  let v82 : BitVec 32 := Scalar.muli v9 c2_i32_58
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v84 : BitVec 32 := Scalar.muli v8 c1_i32_59
  let v85 : BitVec 32 := Scalar.addi v83 v84
  v85.toNat
def k0_dev5 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v116 : BitVec 32 := Scalar.muli v2 c4_i32_80
  let v117 : BitVec 32 := Scalar.addi c0_i32_81 v116
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_82 : BitVec 32 := 2#32
  let v118 : BitVec 32 := Scalar.muli v9 c2_i32_82
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v120 : BitVec 32 := Scalar.muli v8 c1_i32_83
  let v121 : BitVec 32 := Scalar.addi v119 v120
  v121.toNat
def k0_dev6 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v152 : BitVec 32 := Scalar.muli v2 c4_i32_105
  let v153 : BitVec 32 := Scalar.addi c0_i32_106 v152
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_107 : BitVec 32 := 2#32
  let v154 : BitVec 32 := Scalar.muli v9 c2_i32_107
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v156 : BitVec 32 := Scalar.muli v8 c1_i32_108
  let v157 : BitVec 32 := Scalar.addi v155 v156
  v157.toNat
def k0_off4 (d0 : Dev nD) : Fin 2 → Nat :=
  let c0_i32_121 : BitVec 32 := 0#32
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let v24 : BitVec 32 := Scalar.muli c2_i32_14 v23
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let v26 : BitVec 32 := Scalar.addi v24 v25
  let c1024_i32_16 : BitVec 32 := 1024#32
  let v27 : BitVec 32 := Scalar.muli v26 c1024_i32_16
  ![0, v27.toNat]
def k0_dev7 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v188 : BitVec 32 := Scalar.muli v2 c4_i32_130
  let v189 : BitVec 32 := Scalar.addi c0_i32_131 v188
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_132 : BitVec 32 := 2#32
  let v190 : BitVec 32 := Scalar.muli v9 c2_i32_132
  let v191 : BitVec 32 := Scalar.addi v189 v190
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v192 : BitVec 32 := Scalar.muli v8 c1_i32_133
  let v193 : BitVec 32 := Scalar.addi v191 v192
  v193.toNat
def k0_off5 (d0 : Dev nD) : Fin 2 → Nat :=
  let c0_i32_146 : BitVec 32 := 0#32
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c1024_i32_9 : BitVec 32 := 1024#32
  let v18 : BitVec 32 := Scalar.muli v17 c1024_i32_9
  ![0, v18.toNat]
def k0_off6 (d0 : Dev nD) : Fin 2 → Nat :=
  let c0_151 : Index := 0#32
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let v24 : BitVec 32 := Scalar.muli c2_i32_14 v23
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let v26 : BitVec 32 := Scalar.addi v24 v25
  let c1024_i32_16 : BitVec 32 := 1024#32
  let v27 : BitVec 32 := Scalar.muli v26 c1024_i32_16
  let v219 : Index := Scalar.indexCast v27
  ![0, v219.toNat]
def k0_off7 (d0 : Dev nD) (c512_i32_153 : BitVec 32) : Fin 2 → Nat :=
  let c0_i32_160 : BitVec 32 := 0#32
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let v24 : BitVec 32 := Scalar.muli c2_i32_14 v23
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let v26 : BitVec 32 := Scalar.addi v24 v25
  let c1024_i32_16 : BitVec 32 := 1024#32
  let v27 : BitVec 32 := Scalar.muli v26 c1024_i32_16
  let v226 : BitVec 32 := Scalar.addi v27 c512_i32_153
  ![0, v226.toNat]
def k0_dev8 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v227 : BitVec 32 := Scalar.muli v2 c4_i32_156
  let v228 : BitVec 32 := Scalar.addi c0_i32_157 v227
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_158 : BitVec 32 := 2#32
  let v229 : BitVec 32 := Scalar.muli v9 c2_i32_158
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v231 : BitVec 32 := Scalar.muli v8 c1_i32_159
  let v232 : BitVec 32 := Scalar.addi v230 v231
  v232.toNat
def k0_dev9 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_164 : BitVec 32 := 4#32
  let v240 : BitVec 32 := Scalar.muli v2 c4_i32_164
  let v241 : BitVec 32 := Scalar.addi c0_i32_165 v240
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_166 : BitVec 32 := 2#32
  let v242 : BitVec 32 := Scalar.muli v9 c2_i32_166
  let v243 : BitVec 32 := Scalar.addi v241 v242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_167 : BitVec 32 := 1#32
  let v244 : BitVec 32 := Scalar.muli v8 c1_i32_167
  let v245 : BitVec 32 := Scalar.addi v243 v244
  v245.toNat
def k0_dev10 (d0 : Dev nD) : Nat :=
  let c0_i32_183 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_182 : BitVec 32 := 4#32
  let v264 : BitVec 32 := Scalar.muli v10 c4_i32_182
  let v265 : BitVec 32 := Scalar.addi c0_i32_183 v264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_184 : BitVec 32 := 2#32
  let v266 : BitVec 32 := Scalar.muli v5 c2_i32_184
  let v267 : BitVec 32 := Scalar.addi v265 v266
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v268 : BitVec 32 := Scalar.muli v8 c1_i32_185
  let v269 : BitVec 32 := Scalar.addi v267 v268
  v269.toNat
def k0_dev11 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v277 : BitVec 32 := Scalar.muli v2 c4_i32_191
  let v278 : BitVec 32 := Scalar.addi c0_i32_192 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v279 : BitVec 32 := Scalar.muli v5 c2_i32_193
  let v280 : BitVec 32 := Scalar.addi v278 v279
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_194 : BitVec 32 := 1#32
  let v281 : BitVec 32 := Scalar.muli v11 c1_i32_194
  let v282 : BitVec 32 := Scalar.addi v280 v281
  v282.toNat
def k0_off8 (d0 : Dev nD) : Fin 2 → Nat :=
  let c0_i32_206 : BitVec 32 := 0#32
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c1024_i32_12 : BitVec 32 := 1024#32
  let v22 : BitVec 32 := Scalar.muli v21 c1024_i32_12
  ![0, v22.toNat]
def k0_off9 (d0 : Dev nD) : Fin 2 → Nat :=
  let c0_211 : Index := 0#32
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c1024_i32_9 : BitVec 32 := 1024#32
  let v18 : BitVec 32 := Scalar.muli v17 c1024_i32_9
  let v305 : Index := Scalar.indexCast v18
  ![0, v305.toNat]
def k0_dev12 (d0 : Dev nD) : Nat :=
  let c0_i32_226 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_225 : BitVec 32 := 4#32
  let v324 : BitVec 32 := Scalar.muli v10 c4_i32_225
  let v325 : BitVec 32 := Scalar.addi c0_i32_226 v324
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_227 : BitVec 32 := 2#32
  let v326 : BitVec 32 := Scalar.muli v5 c2_i32_227
  let v327 : BitVec 32 := Scalar.addi v325 v326
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v328 : BitVec 32 := Scalar.muli v8 c1_i32_228
  let v329 : BitVec 32 := Scalar.addi v327 v328
  v329.toNat
def k0_dev13 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v337 : BitVec 32 := Scalar.muli v2 c4_i32_234
  let v338 : BitVec 32 := Scalar.addi c0_i32_235 v337
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_236 : BitVec 32 := 2#32
  let v339 : BitVec 32 := Scalar.muli v5 c2_i32_236
  let v340 : BitVec 32 := Scalar.addi v338 v339
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_237 : BitVec 32 := 1#32
  let v341 : BitVec 32 := Scalar.muli v11 c1_i32_237
  let v342 : BitVec 32 := Scalar.addi v340 v341
  v342.toNat
def k0_off10 (d0 : Dev nD) : Fin 2 → Nat :=
  let c0_249 : Index := 0#32
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c1024_i32_12 : BitVec 32 := 1024#32
  let v22 : BitVec 32 := Scalar.muli v21 c1024_i32_12
  let v360 : Index := Scalar.indexCast v22
  ![0, v360.toNat]
def k0_dev14 (d0 : Dev nD) : Nat :=
  let c0_i32_264 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_263 : BitVec 32 := 4#32
  let v379 : BitVec 32 := Scalar.muli v10 c4_i32_263
  let v380 : BitVec 32 := Scalar.addi c0_i32_264 v379
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v381 : BitVec 32 := Scalar.muli v5 c2_i32_265
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v383 : BitVec 32 := Scalar.muli v8 c1_i32_266
  let v384 : BitVec 32 := Scalar.addi v382 v383
  v384.toNat
def k0_dev15 (d0 : Dev nD) : Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_272 : BitVec 32 := 4#32
  let v392 : BitVec 32 := Scalar.muli v2 c4_i32_272
  let v393 : BitVec 32 := Scalar.addi c0_i32_273 v392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v394 : BitVec 32 := Scalar.muli v5 c2_i32_274
  let v395 : BitVec 32 := Scalar.addi v393 v394
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_275 : BitVec 32 := 1#32
  let v396 : BitVec 32 := Scalar.muli v11 c1_i32_275
  let v397 : BitVec 32 := Scalar.addi v395 v396
  v397.toNat
def k0_dev16 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v410 : BitVec 32 := Scalar.muli v2 c4_i32_282
  let v411 : BitVec 32 := Scalar.addi c0_i32_283 v410
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_284 : BitVec 32 := 2#32
  let v412 : BitVec 32 := Scalar.muli v9 c2_i32_284
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_285 : BitVec 32 := 1#32
  let v414 : BitVec 32 := Scalar.muli v8 c1_i32_285
  let v415 : BitVec 32 := Scalar.addi v413 v414
  v415.toNat
def k0_dev17 (d0 : Dev nD) : Nat :=
  let c0_i32_299 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_298 : BitVec 32 := 4#32
  let v432 : BitVec 32 := Scalar.muli v10 c4_i32_298
  let v433 : BitVec 32 := Scalar.addi c0_i32_299 v432
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_300 : BitVec 32 := 2#32
  let v434 : BitVec 32 := Scalar.muli v5 c2_i32_300
  let v435 : BitVec 32 := Scalar.addi v433 v434
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_301 : BitVec 32 := 1#32
  let v436 : BitVec 32 := Scalar.muli v8 c1_i32_301
  let v437 : BitVec 32 := Scalar.addi v435 v436
  v437.toNat
def k0_dev18 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v445 : BitVec 32 := Scalar.muli v2 c4_i32_307
  let v446 : BitVec 32 := Scalar.addi c0_i32_308 v445
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_309 : BitVec 32 := 2#32
  let v447 : BitVec 32 := Scalar.muli v5 c2_i32_309
  let v448 : BitVec 32 := Scalar.addi v446 v447
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_310 : BitVec 32 := 1#32
  let v449 : BitVec 32 := Scalar.muli v11 c1_i32_310
  let v450 : BitVec 32 := Scalar.addi v448 v449
  v450.toNat
def k0_off11 (d0 : Dev nD) (c0_i32_322 : BitVec 32) : Fin 2 → Nat :=
  let c0_i32_329 : BitVec 32 := 0#32
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c1024_i32_12 : BitVec 32 := 1024#32
  let v22 : BitVec 32 := Scalar.muli v21 c1024_i32_12
  let v468 : BitVec 32 := Scalar.addi v22 c0_i32_322
  ![0, v468.toNat]
def k0_dev19 (d0 : Dev nD) : Nat :=
  let c0_i32_326 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_325 : BitVec 32 := 4#32
  let v469 : BitVec 32 := Scalar.muli v10 c4_i32_325
  let v470 : BitVec 32 := Scalar.addi c0_i32_326 v469
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_327 : BitVec 32 := 2#32
  let v471 : BitVec 32 := Scalar.muli v5 c2_i32_327
  let v472 : BitVec 32 := Scalar.addi v470 v471
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_328 : BitVec 32 := 1#32
  let v473 : BitVec 32 := Scalar.muli v8 c1_i32_328
  let v474 : BitVec 32 := Scalar.addi v472 v473
  v474.toNat
def k0_dev20 (d0 : Dev nD) : Nat :=
  let c0_i32_344 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_343 : BitVec 32 := 4#32
  let v493 : BitVec 32 := Scalar.muli v10 c4_i32_343
  let v494 : BitVec 32 := Scalar.addi c0_i32_344 v493
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v495 : BitVec 32 := Scalar.muli v5 c2_i32_345
  let v496 : BitVec 32 := Scalar.addi v494 v495
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_346 : BitVec 32 := 1#32
  let v497 : BitVec 32 := Scalar.muli v8 c1_i32_346
  let v498 : BitVec 32 := Scalar.addi v496 v497
  v498.toNat
def k0_off12 (d0 : Dev nD) (c0_i32_403 : BitVec 32) : Fin 2 → Nat :=
  let c0_i32_405 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v518 : BitVec 32 := Scalar.muli v5 c4096_i32
  let v561 : BitVec 32 := Scalar.addi v518 c0_i32_403
  ![0, v561.toNat]
def k0_off13 (d0 : Dev nD) (c0_i32_439 : BitVec 32) : Fin 2 → Nat :=
  let c0_440 : Index := 0#32
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c1024_i32_9 : BitVec 32 := 1024#32
  let v18 : BitVec 32 := Scalar.muli v17 c1024_i32_9
  let v616 : BitVec 32 := Scalar.addi v18 c0_i32_439
  let v617 : Index := Scalar.indexCast v616
  ![0, v617.toNat]
def k0_off14 (d0 : Dev nD) (c0_i32_439 : BitVec 32) : Fin 2 → Nat :=
  let c0_i32_443 : BitVec 32 := 0#32
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v519 : BitVec 32 := Scalar.subi c1_i32_358 v5
  let c4096_i32_359 : BitVec 32 := 4096#32
  let v520 : BitVec 32 := Scalar.muli v519 c4096_i32_359
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c1024_i32_9 : BitVec 32 := 1024#32
  let v18 : BitVec 32 := Scalar.muli v17 c1024_i32_9
  let v616 : BitVec 32 := Scalar.addi v18 c0_i32_439
  let v627 : BitVec 32 := Scalar.addi v520 v616
  ![0, v627.toNat]
def k0_off15 (d0 : Dev nD) (c0_i32_439 : BitVec 32) : Fin 2 → Nat :=
  let c0_i32_444 : BitVec 32 := 0#32
  let c2_i32_7 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.muli c2_i32_7 v8
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_8 v2
  let v17 : BitVec 32 := Scalar.addi v15 v16
  let c1024_i32_9 : BitVec 32 := 1024#32
  let v18 : BitVec 32 := Scalar.muli v17 c1024_i32_9
  let v616 : BitVec 32 := Scalar.addi v18 c0_i32_439
  ![0, v616.toNat]
def k0_off16 (d0 : Dev nD) (c512_i32_497 : BitVec 32) : Fin 2 → Nat :=
  let c0_498 : Index := 0#32
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c1024_i32_12 : BitVec 32 := 1024#32
  let v22 : BitVec 32 := Scalar.muli v21 c1024_i32_12
  let v724 : BitVec 32 := Scalar.addi v22 c512_i32_497
  let v725 : Index := Scalar.indexCast v724
  ![0, v725.toNat]
def k0_off17 (d0 : Dev nD) (c512_i32_497 : BitVec 32) : Fin 2 → Nat :=
  let c0_i32_500 : BitVec 32 := 0#32
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v519 : BitVec 32 := Scalar.subi c1_i32_358 v5
  let c4096_i32_359 : BitVec 32 := 4096#32
  let v520 : BitVec 32 := Scalar.muli v519 c4096_i32_359
  let c2_i32_11 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.muli c2_i32_11 v19
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.addi v20 v2
  let c1024_i32_12 : BitVec 32 := 1024#32
  let v22 : BitVec 32 := Scalar.muli v21 c1024_i32_12
  let v724 : BitVec 32 := Scalar.addi v22 c512_i32_497
  let v735 : BitVec 32 := Scalar.addi v520 v724
  ![0, v735.toNat]
def k0_off18 (d0 : Dev nD) (c0_i32_525 : BitVec 32) : Fin 2 → Nat :=
  let c0_526 : Index := 0#32
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let v24 : BitVec 32 := Scalar.muli c2_i32_14 v23
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let v26 : BitVec 32 := Scalar.addi v24 v25
  let c1024_i32_16 : BitVec 32 := 1024#32
  let v27 : BitVec 32 := Scalar.muli v26 c1024_i32_16
  let v778 : BitVec 32 := Scalar.addi v27 c0_i32_525
  let v779 : Index := Scalar.indexCast v778
  ![0, v779.toNat]
def k0_off19 (d0 : Dev nD) (c0_i32_525 : BitVec 32) : Fin 2 → Nat :=
  let c0_i32_528 : BitVec 32 := 0#32
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v519 : BitVec 32 := Scalar.subi c1_i32_358 v5
  let c4096_i32_359 : BitVec 32 := 4096#32
  let v520 : BitVec 32 := Scalar.muli v519 c4096_i32_359
  let c2_i32_14 : BitVec 32 := 2#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let v24 : BitVec 32 := Scalar.muli c2_i32_14 v23
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_15 v2
  let v26 : BitVec 32 := Scalar.addi v24 v25
  let c1024_i32_16 : BitVec 32 := 1024#32
  let v27 : BitVec 32 := Scalar.muli v26 c1024_i32_16
  let v778 : BitVec 32 := Scalar.addi v27 c0_i32_525
  let v789 : BitVec 32 := Scalar.addi v520 v778
  ![0, v789.toNat]
def k0_off20 (d0 : Dev nD) : Fin 2 → Nat :=
  let c0_620 : Index := 0#32
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c1024_i32 : BitVec 32 := 1024#32
  let v14 : BitVec 32 := Scalar.muli v13 c1024_i32
  let v915 : Index := Scalar.indexCast v14
  ![0, v915.toNat]
def k0_off21 (d0 : Dev nD) : Fin 2 → Nat :=
  let c0_i32_622 : BitVec 32 := 0#32
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v519 : BitVec 32 := Scalar.subi c1_i32_358 v5
  let c4096_i32_359 : BitVec 32 := 4096#32
  let v520 : BitVec 32 := Scalar.muli v519 c4096_i32_359
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c1024_i32 : BitVec 32 := 1024#32
  let v14 : BitVec 32 := Scalar.muli v13 c1024_i32
  let v925 : BitVec 32 := Scalar.addi v520 v14
  ![0, v925.toNat]
def k0_off22 (d0 : Dev nD) : Fin 2 → Nat :=
  let c0_i32_623 : BitVec 32 := 0#32
  let c2_i32_6 : BitVec 32 := 2#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.muli c2_i32_6 v8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v12 v2
  let c1024_i32 : BitVec 32 := 1024#32
  let v14 : BitVec 32 := Scalar.muli v13 c1024_i32
  ![0, v14.toNat]
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 15
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | .hbm, ⟨14, _⟩ => ⟨S256x8192, .bf16⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Mesh.lean ====
/-
The 2 × 2 × 2 mesh of the two-shot softmax: the three neighbours of a device, the four quarters of a device's half of the
columns by the ROLE they play for it, and every access the kernel computes as a column of one of them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.K

open Cert.KernelIdeal Cert.KernelIdeal.Gen
open Idealize.ShloMosaic
open Idealize.ShloMosaic.TcCoe

/-! ## Neighbours -/

/-- Device `c = 4 x + 2 y + z`; its neighbour across `y`, which holds the other half of the columns. -/
def py (c : Dev nD) : Dev nD := ⟨(c.val ^^^ 2) % 8, Nat.mod_lt _ (by decide)⟩
/-- The neighbour across `x`. -/
def px (c : Dev nD) : Dev nD := ⟨(c.val ^^^ 4) % 8, Nat.mod_lt _ (by decide)⟩
/-- The neighbour across `z`. -/
def pz (c : Dev nD) : Dev nD := ⟨(c.val ^^^ 1) % 8, Nat.mod_lt _ (by decide)⟩

theorem py_py (c : Dev nD) : py (py c) = c := by revert c; decide
theorem px_px (c : Dev nD) : px (px c) = c := by revert c; decide
theorem pz_pz (c : Dev nD) : pz (pz c) = c := by revert c; decide
theorem px_py (c : Dev nD) : px (py c) = py (px c) := by revert c; decide
theorem pz_py (c : Dev nD) : pz (py c) = py (pz c) := by revert c; decide
theorem px_pz (c : Dev nD) : px (pz c) = pz (px c) := by revert c; decide

/-! ## Quarters by role -/

/-- The first column of the quarter playing role `r` for device `c`: role 0 is the quarter its plane owns, 1 the one
    owned across `x`, 2 the one owned across `z`, 3 the one owned across both. -/
def qo (r : Fin 4) (c : Dev nD) : ℕ := 1024 * ((2 * (c.val % 2) + c.val / 4) ^^^ r.val)
/-- The first column of the `i`-th of the four chunks of that quarter. -/
def ck (r i : Fin 4) (c : Dev nD) : ℕ := qo r c + 256 * i.val
/-- The first column of the half of the result device `c` computes itself, and of the half it receives. -/
def hOwn (c : Dev nD) : ℕ := 4096 * ((c.val / 2) % 2)
def hRem (c : Dev nD) : ℕ := 4096 * (1 - (c.val / 2) % 2)

theorem qo_py (r : Fin 4) (c : Dev nD) : qo r (py c) = qo r c := by revert c r; decide +kernel
theorem qo_px0 (c : Dev nD) : qo 0 (px c) = qo 1 c := by revert c; decide +kernel
theorem qo_px1 (c : Dev nD) : qo 1 (px c) = qo 0 c := by revert c; decide +kernel
theorem qo_px2 (c : Dev nD) : qo 2 (px c) = qo 3 c := by revert c; decide +kernel
theorem qo_px3 (c : Dev nD) : qo 3 (px c) = qo 2 c := by revert c; decide +kernel
theorem qo_pz0 (c : Dev nD) : qo 0 (pz c) = qo 2 c := by revert c; decide +kernel
theorem qo_pz2 (c : Dev nD) : qo 2 (pz c) = qo 0 c := by revert c; decide +kernel
theorem ck_py (r i : Fin 4) (c : Dev nD) : ck r i (py c) = ck r i c := by rw [ck, qo_py, ck]
theorem ck_px1 (i : Fin 4) (c : Dev nD) : ck 1 i (px c) = ck 0 i c := by rw [ck, qo_px1, ck]
theorem ck_px3 (i : Fin 4) (c : Dev nD) : ck 3 i (px c) = ck 2 i c := by rw [ck, qo_px3, ck]
theorem ck_px0 (i : Fin 4) (c : Dev nD) : ck 0 i (px c) = ck 1 i c := by rw [ck, qo_px0, ck]
theorem ck_px2 (i : Fin 4) (c : Dev nD) : ck 2 i (px c) = ck 3 i c := by rw [ck, qo_px2, ck]
theorem ck_pz2 (i : Fin 4) (c : Dev nD) : ck 2 i (pz c) = ck 0 i c := by rw [ck, qo_pz2, ck]
theorem ck_pz0 (i : Fin 4) (c : Dev nD) : ck 0 i (pz c) = ck 2 i c := by rw [ck, qo_pz0, ck]
theorem ck_zero (r : Fin 4) (c : Dev nD) : ck r 0 c = qo r c := rfl

/-- The role the quarter of index `t` plays for `c`. -/
def roleOf (c : Dev nD) (t : Fin 4) : Fin 4 := ⟨((2 * (c.val % 2) + c.val / 4) ^^^ t.val) % 4, Nat.mod_lt _ (by decide)⟩
theorem qo_roleOf (c : Dev nD) (t : Fin 4) : qo (roleOf c t) c = 1024 * t.val := by revert c t; decide +kernel
theorem qo_lt (r : Fin 4) (c : Dev nD) : qo r c + 1024 ≤ 4096 := by revert c r; decide +kernel
theorem qo_div (r : Fin 4) (c : Dev nD) : qo r c = 1024 * (qo r c / 1024) := by revert c r; decide +kernel
theorem roleOf_qo (r : Fin 4) (c : Dev nD) : ∀ t : Fin 4, t.val = qo r c / 1024 → roleOf c t = r := by revert c r; decide +kernel

/-! ## The kernel's offsets and devices -/

theorem off1_at (c : Dev nD) (i : Fin 4) : k0_off1 c (BitVec.ofNat 32 (256 * i.val)) = ![0, ck 0 i c] :=
  (k0_off1_eq c i).trans (congrArg (fun n => ![0, n]) (by revert c i; decide +kernel))
theorem off2_at (c : Dev nD) (i : Fin 4) : k0_off2 c (BitVec.ofNat 32 (256 * i.val)) = ![0, ck 0 i c] :=
  (k0_off2_eq c i).trans (congrArg (fun n => ![0, n]) (by revert c i; decide +kernel))
theorem off3_at (c : Dev nD) (i : Fin 4) : k0_off3 c (BitVec.ofNat 32 (256 * i.val)) = ![0, ck 0 i c] :=
  (k0_off3_eq c i).trans (congrArg (fun n => ![0, n]) (by revert c i; decide +kernel))
theorem off4_at (c : Dev nD) : k0_off4 c = ![0, qo 3 c] :=
  (k0_off4_eq c).trans (congrArg (fun n => ![0, n]) (by revert c; decide +kernel))
theorem off5_at (c : Dev nD) : k0_off5 c = ![0, qo 1 c] :=
  (k0_off5_eq c).trans (congrArg (fun n => ![0, n]) (by revert c; decide +kernel))
theorem off6_at (c : Dev nD) : k0_off6 c = ![0, qo 3 c] :=
  (k0_off6_eq c).trans (congrArg (fun n => ![0, n]) (by revert c; decide +kernel))
theorem off7_at (c : Dev nD) (i : Fin 4) : k0_off7 c (BitVec.ofNat 32 (256 * i.val)) = ![0, ck 3 i c] :=
  (k0_off7_eq c i).trans (congrArg (fun n => ![0, n]) (by revert c i; decide +kernel))
theorem off8_at (c : Dev nD) : k0_off8 c = ![0, qo 2 c] :=
  (k0_off8_eq c).trans (congrArg (fun n => ![0, n]) (by revert c; decide +kernel))
theorem off9_at (c : Dev nD) : k0_off9 c = ![0, qo 1 c] :=
  (k0_off9_eq c).trans (congrArg (fun n => ![0, n]) (by revert c; decide +kernel))
theorem off10_at (c : Dev nD) : k0_off10 c = ![0, qo 2 c] :=
  (k0_off10_eq c).trans (congrArg (fun n => ![0, n]) (by revert c; decide +kernel))
theorem off11_at (c : Dev nD) (i : Fin 4) : k0_off11 c (BitVec.ofNat 32 (256 * i.val)) = ![0, ck 2 i c] :=
  (k0_off11_eq c i).trans (congrArg (fun n => ![0, n]) (by revert c i; decide +kernel))
theorem off12_at (c : Dev nD) (i : Fin 4) : k0_off12 c (BitVec.ofNat 32 (1024 * i.val)) = ![0, hOwn c + 1024 * i.val] :=
  (k0_off12_eq c i).trans (congrArg (fun n => ![0, n]) (by revert c i; decide +kernel))
theorem off13_at (c : Dev nD) (i : Fin 4) : k0_off13 c (BitVec.ofNat 32 (256 * i.val)) = ![0, ck 1 i c] :=
  (k0_off13_eq c i).trans (congrArg (fun n => ![0, n]) (by revert c i; decide +kernel))
theorem off14_at (c : Dev nD) (i : Fin 4) : k0_off14 c (BitVec.ofNat 32 (256 * i.val)) = ![0, hRem c + ck 1 i c] :=
  (k0_off14_eq c i).trans (congrArg (fun n => ![0, n]) (by revert c i; decide +kernel))
theorem off15_at (c : Dev nD) (i : Fin 4) : k0_off15 c (BitVec.ofNat 32 (256 * i.val)) = ![0, ck 1 i c] :=
  (k0_off15_eq c i).trans (congrArg (fun n => ![0, n]) (by revert c i; decide +kernel))
theorem off16_at (c : Dev nD) (i : Fin 4) : k0_off16 c (BitVec.ofNat 32 (256 * i.val)) = ![0, ck 2 i c] :=
  (k0_off16_eq c i).trans (congrArg (fun n => ![0, n]) (by revert c i; decide +kernel))
theorem off17_at (c : Dev nD) (i : Fin 4) : k0_off17 c (BitVec.ofNat 32 (256 * i.val)) = ![0, hRem c + ck 2 i c] :=
  (k0_off17_eq c i).trans (congrArg (fun n => ![0, n]) (by revert c i; decide +kernel))
theorem off18_at (c : Dev nD) (i : Fin 4) : k0_off18 c (BitVec.ofNat 32 (256 * i.val)) = ![0, ck 3 i c] :=
  (k0_off18_eq c i).trans (congrArg (fun n => ![0, n]) (by revert c i; decide +kernel))
theorem off19_at (c : Dev nD) (i : Fin 4) : k0_off19 c (BitVec.ofNat 32 (256 * i.val)) = ![0, hRem c + ck 3 i c] :=
  (k0_off19_eq c i).trans (congrArg (fun n => ![0, n]) (by revert c i; decide +kernel))
theorem off20_at (c : Dev nD) : k0_off20 c = ![0, qo 0 c] :=
  (k0_off20_eq c).trans (congrArg (fun n => ![0, n]) (by revert c; decide +kernel))
theorem off21_at (c : Dev nD) : k0_off21 c = ![0, hRem c + qo 0 c] :=
  (k0_off21_eq c).trans (congrArg (fun n => ![0, n]) (by revert c; decide +kernel))
theorem off22_at (c : Dev nD) : k0_off22 c = ![0, qo 0 c] :=
  (k0_off22_eq c).trans (congrArg (fun n => ![0, n]) (by revert c; decide +kernel))

theorem dev_py {n : ℕ} (c : Dev nD) (h : n < nD) (e : n = (4 * (c.val / 4) + (c.val % 2) + 2) - 2 * ((c.val / 2) % 2)) :
    (⟨n, h⟩ : Dev nD) = py c := by subst e; revert c; decide
theorem dev_px {n : ℕ} (c : Dev nD) (h : n < nD) (e : n = (2 * ((c.val / 2) % 2) + (c.val % 2) + 4) - 4 * (c.val / 4)) :
    (⟨n, h⟩ : Dev nD) = px c := by subst e; revert c; decide
theorem dev_pz {n : ℕ} (c : Dev nD) (h : n < nD) (e : n = (4 * (c.val / 4) + 2 * ((c.val / 2) % 2) + 1) - (c.val % 2)) :
    (⟨n, h⟩ : Dev nD) = pz c := by subst e; revert c; decide

end Cert.KernelIdeal.K

end
-- ==== Proof.Held.lean ====
/-
Column ranges of a matrix buffer as resources: `held m d lo w q g` is the columns `lo … lo+w` of the buffer behind the memref
`m` on device `d`, at share `q`, reading as the function `g` there.  A load, a store and a copy of a whole-height rectangle
act on it by the block `colBlock g lo` of the columns they go through.
-/
module

public import proofs.«01_k».proof.Proof.Mesh
public import Idealize.ShloMosaic.Lib.Transfers
public import Idealize.ShloMosaic.Lib.Pointwise.Index

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

/-- The rounds library's state (three duties at most in a round) beside the counters of local copies. -/
abbrev UB : Type := URounds (GSem nD τ sig) (Fin 3) × Counters
abbrev UU : Type := UR sig nD τ × UB

local notation "𝕄" => MT nD τ sig Unit (Elt F) ℕ UU ℕ

abbrev EP : Emb (UR sig nD τ) (MT nD τ sig Unit (Elt F) ℕ UU ℕ) := embL
/-- Where the schedules' state sits. -/
def ER : Emb (URounds (GSem nD τ sig) (Fin 3)) (MT nD τ sig Unit (Elt F) ℕ UU ℕ) :=
  (Emb.inl : Emb (URounds (GSem nD τ sig) (Fin 3)) UB).trans (embR : Emb UB (MT nD τ sig Unit (Elt F) ℕ UU ℕ))
instance ER_landsIn : (ER : Emb (URounds (GSem nD τ sig) (Fin 3)) 𝕄).LandsIn (upEmb : UEmb _ 𝕄) := by unfold ER; infer_instance
/-- Where the local copies' counters sit. -/
abbrev EC : UEmb Counters (MT nD τ sig Unit (Elt F) ℕ UU ℕ) := countersEmb

/-! ## Columns -/

section Cols
variable {R N : ℕ}

/-- The elements of a matrix in the columns `lo … lo + w`. -/
def cols (R N lo w : ℕ) : Finset (Shape.Idx ⟨2, ![R, N]⟩) := Finset.univ.filter fun i => lo ≤ (i 1).val ∧ (i 1).val < lo + w

theorem mem_cols {lo w : ℕ} {i : Shape.Idx ⟨2, ![R, N]⟩} : i ∈ cols R N lo w ↔ lo ≤ (i 1).val ∧ (i 1).val < lo + w := by
  simp [cols]

/-- The columns `lo … lo + w` of a function on a matrix, as a matrix of their own. -/
def colBlock {α : Type} [NeZero N] (g : Shape.Idx ⟨2, ![R, N]⟩ → α) (lo w : ℕ) : Shape.Idx ⟨2, ![R, w]⟩ → α :=
  fun i => g (ix2 (n0 := R) (n1 := N) (i 0) (Fin.ofNat N (lo + (i 1).val)))

theorem cols_disjoint {lo w lo' w' : ℕ} (h : lo + w ≤ lo' ∨ lo' + w' ≤ lo) : Disjoint (cols R N lo w) (cols R N lo' w') := by
  rw [Finset.disjoint_left]; intro i hi hj
  rw [mem_cols] at hi hj
  omega

theorem cols_union {lo w w' : ℕ} : cols R N lo w ∪ cols R N (lo + w) w' = cols R N lo (w + w') := by
  ext i; simp only [Finset.mem_union, mem_cols]; omega

theorem cols_univ : cols R N 0 N = Finset.univ := by
  ext i; simp only [mem_cols, Finset.mem_univ, iff_true]
  have h : (i 1).val < N := (i 1).isLt
  omega

variable {lo w : ℕ} {off : Fin 2 → ℕ} {inb : ∀ a : Fin 2, off a + (![R, w] : Fin 2 → ℕ) a ≤ (![R, N] : Fin 2 → ℕ) a}

/-- The rectangle of full height a kernel's access goes through covers its columns. -/
theorem unit_set (ho : off = ![0, lo]) : (Rect.unit (s := ⟨2, ![R, N]⟩) off ![R, w] inb).set = cols R N lo w := by
  subst ho
  ext i
  rw [Rect.mem_set_unit, mem_cols]
  constructor
  · intro h; exact h 1
  · intro h a
    match a with
    | ⟨0, _⟩ => exact ⟨Nat.zero_le _, by have h0 : (i 0).val < R := (i 0).isLt; show (i 0).val < 0 + R; omega⟩
    | ⟨1, _⟩ => exact h

theorem unit_emb [NeZero N] (ho : off = ![0, lo]) (j : Shape.Idx ⟨2, ![R, w]⟩) :
    (Rect.unit (s := ⟨2, ![R, N]⟩) off ![R, w] inb).emb j = ix2 (n0 := R) (n1 := N) (j 0) (Fin.ofNat N (lo + (j 1).val)) := by
  subst ho
  funext a
  match a with
  | ⟨0, _⟩ => exact Fin.ext (by show 0 + 1 * (j 0).val = (j 0).val; omega)
  | ⟨1, _⟩ =>
    have hb : lo + w ≤ N := inb 1
    have hj : (j 1).val < w := (j 1).isLt
    refine Fin.ext ?_
    show lo + 1 * (j 1).val = (lo + (j 1).val) % N
    rw [Nat.mod_eq_of_lt (by omega)]; omega

end Cols

/-! ## Held columns -/

section Held
variable {R N : ℕ} {sp : Space} {e : EltTy}

/-- The elements `I` of the matrix behind `m`, at share `q`, reading as `g`. -/
def heldOn (m : Memref sig .tc sp ⟨2, ![R, N]⟩ e) (d : Dev nD) (I : Finset (Shape.Idx ⟨2, ![R, N]⟩)) (q : PosShare TreeShare)
    (g : Shape.Idx ⟨2, ![R, N]⟩ → Elt F e) : sProp 𝕄 :=
  iprop(∃ f : Buf (Elt F) (m.view.loc (d : Thread nD τ)), (m.view.loc (d : Thread nD τ) ↦[m.view.setOn I]{q} f)
    ∗ ⌜∀ i ∈ I, m.view.read (Elt F) f i = g i⌝)

/-- The columns `lo … lo + w` of the matrix behind `m`, at share `q`, reading as `g`. -/
abbrev held (m : Memref sig .tc sp ⟨2, ![R, N]⟩ e) (d : Dev nD) (lo w : ℕ) (q : PosShare TreeShare)
    (g : Shape.Idx ⟨2, ![R, N]⟩ → Elt F e) : sProp 𝕄 := heldOn m d (cols R N lo w) q g

omit [FloatOps F] in
instance heldOn_storable (m : Memref sig .tc sp ⟨2, ![R, N]⟩ e) (d : Dev nD) (I q) (g) :
    BI.Storable (upEmb : UEmb _ 𝕄) (heldOn (F := F) m d I q g) := by unfold heldOn; infer_instance

variable {m : Memref sig .tc sp ⟨2, ![R, N]⟩ e} {d : Dev nD} {q : PosShare TreeShare} {g g' : Shape.Idx ⟨2, ![R, N]⟩ → Elt F e}
  {I J : Finset (Shape.Idx ⟨2, ![R, N]⟩)}

omit [FloatOps F] in
theorem heldOn_congr (h : ∀ i ∈ I, g i = g' i) : (heldOn m d I q g : sProp 𝕄) ⊢ heldOn m d I q g' := by
  unfold heldOn
  iintro ⟨%f, Hf, %hf⟩
  iexists f
  isplitl [Hf]; · iexact Hf
  ipureintro; exact fun i hi => (hf i hi).trans (h i hi)

omit [FloatOps F] in
theorem setOn_disjoint (h : Disjoint I J) : Disjoint (m.view.setOn I) (m.view.setOn J) :=
  (Finset.disjoint_map _).mpr h

omit [FloatOps F] in
theorem heldOn_split (h : Disjoint I J) : (heldOn m d (I ∪ J) q g : sProp 𝕄) ⊢ iprop(heldOn m d I q g ∗ heldOn m d J q g) := by
  unfold heldOn
  iintro ⟨%f, Hf, %hf⟩
  rw [show m.view.setOn (I ∪ J) = m.view.setOn I ∪ m.view.setOn J from Finset.map_union _ _]
  ihave H := (pointsTo_union (setOn_disjoint h)).1 $$ Hf
  icases H with ⟨H1, H2⟩
  isplitl [H1]
  · iexists f; isplitl [H1]; · iexact H1
    ipureintro; exact fun i hi => hf i (Finset.mem_union_left _ hi)
  · iexists f; isplitl [H2]; · iexact H2
    ipureintro; exact fun i hi => hf i (Finset.mem_union_right _ hi)

omit [FloatOps F] in
theorem heldOn_join (h : Disjoint I J) : iprop(heldOn m d I q g ∗ heldOn m d J q g) ⊢ (heldOn m d (I ∪ J) q g : sProp 𝕄) := by
  unfold heldOn
  iintro ⟨⟨%f, Hf, %hf⟩, ⟨%f', Hf', %hf'⟩⟩
  rw [show m.view.setOn (I ∪ J) = m.view.setOn I ∪ m.view.setOn J from Finset.map_union _ _]
  ihave H := (pointsTo_join (f := f) (g := f') (setOn_disjoint (m := m) h)) $$ [Hf Hf']
  · isplitl [Hf]; · iexact Hf
    iexact Hf'
  iexists _
  isplitl [H]; · iexact H
  ipureintro
  intro i hi
  by_cases hj : i ∈ J
  · rw [← hf' i hj, View.read_apply, View.read_apply, Finset.piecewise_eq_of_mem _ _ _ (m.view.mem_setOn.mpr hj)]
  · have hi' : i ∈ I := (Finset.mem_union.mp hi).resolve_right hj
    rw [← hf i hi', View.read_apply, View.read_apply, Finset.piecewise_eq_of_notMem _ _ _ (fun hm => hj (m.view.mem_setOn.mp hm))]

omit [FloatOps F] in
theorem heldOn_empty : (emp : sProp 𝕄) ⊢ ∀ f : Buf (Elt F) (m.view.loc (d : Thread nD τ)), heldOn m d ∅ q g := by
  iintro - %f
  unfold heldOn
  iexists f
  rw [show m.view.setOn ∅ = ∅ from Finset.map_empty _, pointsTo_empty]
  isplitr; · iempintro
  ipureintro; exact fun i hi => absurd hi (Finset.notMem_empty i)

omit [FloatOps F] in
/-- Two shares of the same elements compose. -/
theorem heldOn_share {q₁ q₂ : PosShare TreeShare} (h : q ∈ q₁ ·? q₂) :
    (heldOn m d I q g : sProp 𝕄) ⊢ iprop(heldOn m d I q₁ g ∗ heldOn m d I q₂ g) := by
  unfold heldOn
  iintro ⟨%f, Hf, %hf⟩
  ihave H := (pointsTo_share h).1 $$ Hf
  icases H with ⟨H1, H2⟩
  isplitl [H1]
  · iexists f; isplitl [H1]; · iexact H1
    ipureintro; exact hf
  · iexists f; isplitl [H2]; · iexact H2
    ipureintro; exact hf

omit [FloatOps F] in
theorem heldOn_unshare {q₁ q₂ : PosShare TreeShare} (h : q ∈ q₁ ·? q₂) :
    iprop(heldOn m d I q₁ g ∗ heldOn m d I q₂ g) ⊢ (heldOn m d I q g : sProp 𝕄) := by
  unfold heldOn
  iintro ⟨⟨%f, Hf, %hf⟩, ⟨%f', Hf', %hf'⟩⟩
  have key : ∀ i ∈ m.view.setOn I, f i = f' i := by
    intro i hi
    obtain ⟨x, hx, rfl⟩ := Finset.mem_map.mp hi
    have h1 := hf x hx
    rw [← hf' x hx, View.read_apply, View.read_apply] at h1
    exact (cast_inj _).mp h1
  ihave Hf := (Entails.of_eq (pointsTo_congr key)) $$ Hf
  iexists f'
  isplitl [Hf Hf']
  · iapply (pointsTo_share h).2
    isplitl [Hf]; · iexact Hf
    iexact Hf'
  ipureintro; exact hf'

omit [FloatOps F] in
/-- Along a finite family of pairwise disjoint sets. -/
theorem heldOn_biUnion {T : Type} [DecidableEq T] (S : Finset T) (K : T → Finset (Shape.Idx ⟨2, ![R, N]⟩)) (hS : S.Nonempty)
    (h : ∀ t ∈ S, ∀ t' ∈ S, t ≠ t' → Disjoint (K t) (K t')) :
    (heldOn m d (S.biUnion K) q g : sProp 𝕄) ⊣⊢ bigSep S fun t => heldOn m d (K t) q g := by
  induction hS using Finset.Nonempty.cons_induction with
  | singleton t => rw [bigSep_singleton, Finset.singleton_biUnion]
  | cons t S ht hS ih =>
    have ih := ih fun a ha b hb => h a (Finset.mem_cons_of_mem ha) b (Finset.mem_cons_of_mem hb)
    have hd : Disjoint (K t) (S.biUnion K) := by
      rw [Finset.disjoint_biUnion_right]
      exact fun t' ht' => h t (Finset.mem_cons_self _ _) t' (Finset.mem_cons_of_mem ht') (fun e => ht (e ▸ ht'))
    rw [Finset.cons_eq_insert, bigSep_insert ht, Finset.biUnion_insert]
    exact ⟨(heldOn_split hd).trans (sep_mono_right ih.1), (sep_mono_right ih.2).trans (heldOn_join hd)⟩

end Held

end Cert.KernelIdeal.K

end
-- ==== Proof.Contents.lean ====
/-
What the buffers of the two-shot softmax hold: the unscaled half `S c` a device computes, the unscaled half `R c` it receives,
the row sums, and the scaled result `O c`; and that the blocks the kernel computes and moves are columns of these.
-/
module

public import proofs.«01_k».proof.Proof.Held

@[expose] public section

noncomputable section

namespace Cert.KernelIdeal.K

open Cert.KernelIdeal Cert.KernelIdeal.Gen
open Idealize.ShloMosaic
open Idealize.ShloMosaic.TcCoe

variable {F : FTy → Type} [FloatOps F]
variable (m : (ℓ : Loc nD τ sig) → Buf (Elt F) ℓ)

/-- Device `c`'s arguments. -/
def X (c : Dev nD) : Vec F S256x512 .f32 := m ((c : Thread nD τ).loc main_arg0)
def Wt (c : Dev nD) : Vec F S512x4096 .f32 := m ((c : Thread nD τ).loc main_arg1)

/-- `w` columns of the weights from `lo`, as they land in a staging slot. -/
def wblk (c : Dev nD) (lo w : ℕ) : Vec F ⟨3, ![1, 512, w]⟩ .f32 :=
  fun i => Wt m c (ix2 (n0 := 512) (n1 := 4096) (i 1) (Fin.ofNat 4096 (lo + (i 2).val)))

/-- The rounded activations. -/
def xb (c : Dev nD) : FVec F S256x512 .bf16 := k0_pay1 (X m c)

/-- The exponentials of device `c`'s half of the logits, rounded, at a row and a column: computed in chunks of 256 columns on the
    quarter it owns, in whole quarters elsewhere. -/
def Sat (c : Dev nD) (r : Fin 256) (n : ℕ) : F .bf16 :=
  if n / 1024 = qo 0 c / 1024 then
    k0_pay4 (xb m c) (wblk m c (256 * (n / 256)) 256) (ix2 (n0 := 256) (n1 := 256) r (Fin.ofNat 256 (n % 256)))
  else
    k0_pay16 (xb m c) (wblk m c (1024 * (n / 1024)) 1024) (ix2 (n0 := 256) (n1 := 1024) r (Fin.ofNat 1024 (n % 1024)))
def S (c : Dev nD) : Vec F S256x4096 .bf16 := fun i => Sat m c (i 0) (i 1).val

/-- The device whose half the columns of role `r` arrive from at `c` (`low`: in the first half of the quarter). -/
def rdev (c : Dev nD) (r : Fin 4) (low : Bool) : Dev nD :=
  match r with
  | 0 => py c
  | 1 => py (px c)
  | 2 => py (pz c)
  | 3 => if low then py (px (pz c)) else py c

/-- The unscaled half device `c` receives. -/
def R (c : Dev nD) : Vec F S256x4096 .bf16 := fun i =>
  S m (rdev c (roleOf c ⟨(i 1).val / 1024 % 4, Nat.mod_lt _ (by decide)⟩) (decide ((i 1).val % 1024 < 512))) i

/-- The row sums of device `c`'s half, in the order the kernel adds them. -/
def sum3 (c : Dev nD) : FVec F S256x1 .f32 :=
  k0_pay12 (k0_pay9 (k0_pay6 (k0_pay2 (F := F)) (k0_pay5 (xb m c) (wblk m c (ck 0 0 c) 256)))
    (k0_pay7 (xb m c) (wblk m c (ck 0 1 c) 256))) (k0_pay10 (xb m c) (wblk m c (ck 0 2 c) 256))
def sum5 (c : Dev nD) : FVec F S256x1 .f32 :=
  k0_pay17 (xb m c) (sum3 m c) (k0_pay13 (xb m c) (wblk m c (ck 0 3 c) 256)) (wblk m c (qo 3 c) 1024)
def sum6 (c : Dev nD) : FVec F S256x1 .f32 := k0_pay20 (xb m c) (sum5 m c) (wblk m c (qo 1 c) 1024)
def sloc (c : Dev nD) : FVec F S256x1 .f32 := k0_pay24 (sum6 m c) (k0_pay21 (xb m c) (wblk m c (qo 2 c) 1024))

/-- The row sums as they are sent, and the reciprocal of the whole row's sum. -/
def st (c : Dev nD) : Vec F S256x128 .bf16 := k0_pay25 (sloc m c)
def inv (c : Dev nD) : FVec F S256x1 .f32 := k0_pay26 (sloc m c) (colBlock (st m (py c)) 0 1)

/-- A block of exponentials scaled row by row. -/
def sc (v : FVec F S256x1 .f32) {n : ℕ} (f : Vec F ⟨2, ![256, n]⟩ .bf16) : Vec F ⟨2, ![256, n]⟩ .bf16 :=
  fun i => FloatOps.truncf .bf16 bitsLt_bf16_f32 (FloatOps.mulf (FloatOps.extf .f32 bitsLt_bf16_f32 (f i)) (v (ix2 (n0 := 256) (n1 := 1) (i 0) 0)))

/-- The scaled halves, and the result. -/
def SS (c : Dev nD) : Vec F S256x4096 .bf16 := sc (inv m c) (S m c)
def RR (c : Dev nD) : Vec F S256x4096 .bf16 := sc (inv m c) (R m c)
def Oat (c : Dev nD) (r : Fin 256) (n : ℕ) : F .bf16 :=
  if n / 4096 = hOwn c / 4096 then SS m c (ix2 (n0 := 256) (n1 := 4096) r (Fin.ofNat 4096 (n % 4096)))
  else RR m c (ix2 (n0 := 256) (n1 := 4096) r (Fin.ofNat 4096 (n % 4096)))
def O (c : Dev nD) : Vec F S256x8192 .bf16 := fun i => Oat m c (i 0) (i 1).val

/-! ## Blocks -/

/-- A chunk of the owned quarter is the block the kernel computes for it. -/
theorem S_chunk (c : Dev nD) (k : Fin 4) : k0_pay4 (xb m c) (wblk m c (ck 0 k c) 256) = colBlock (S m c) (ck 0 k c) 256 := by
  have h1 := qo_lt 0 c
  have h2 := qo_div 0 c
  funext j
  have hj : (j 1).val < 256 := (j 1).isLt
  have hk := k.isLt
  have hmod : (ck 0 k c + (j 1).val) % 4096 = ck 0 k c + (j 1).val := Nat.mod_eq_of_lt (by unfold ck; omega)
  have hq : (ck 0 k c + (j 1).val) / 1024 = qo 0 c / 1024 := by unfold ck; omega
  have hb : 256 * ((ck 0 k c + (j 1).val) / 256) = ck 0 k c := by unfold ck; omega
  have hr : (ck 0 k c + (j 1).val) % 256 = (j 1).val := by unfold ck; omega
  have hv : ((Fin.ofNat 4096 (ck 0 k c + (j 1).val) : Fin 4096)).val = ck 0 k c + (j 1).val := hmod
  show _ = Sat m c (j 0) (Fin.ofNat 4096 (ck 0 k c + (j 1).val) : Fin 4096).val
  rw [hv]
  unfold Sat
  rw [if_pos hq, hb, hr, show (Fin.ofNat 256 (j 1).val : Fin 256) = j 1 from Fin.ext (Nat.mod_eq_of_lt hj)]
  exact congrArg _ (ix2_eta (n0 := 256) (n1 := 256) j).symm

/-- A whole quarter of another role is the block the kernel computes for it. -/
theorem S_quarter (c : Dev nD) (r : Fin 4) (hr0 : r ≠ 0) : k0_pay16 (xb m c) (wblk m c (qo r c) 1024) = colBlock (S m c) (qo r c) 1024 := by
  have h1 := qo_lt r c
  have h2 := qo_div r c
  have hne : qo r c / 1024 ≠ qo 0 c / 1024 := by revert c r; decide +kernel
  funext j
  have hj : (j 1).val < 1024 := (j 1).isLt
  have hmod : (qo r c + (j 1).val) % 4096 = qo r c + (j 1).val := Nat.mod_eq_of_lt (by omega)
  have hq : (qo r c + (j 1).val) / 1024 = qo r c / 1024 := by omega
  have hb : 1024 * (qo r c / 1024) = qo r c := by omega
  have hr : (qo r c + (j 1).val) % 1024 = (j 1).val := by omega
  have hv : ((Fin.ofNat 4096 (qo r c + (j 1).val) : Fin 4096)).val = qo r c + (j 1).val := hmod
  show _ = Sat m c (j 0) (Fin.ofNat 4096 (qo r c + (j 1).val) : Fin 4096).val
  rw [hv]
  unfold Sat
  rw [if_neg (hq ▸ hne), hq, hb, hr, show (Fin.ofNat 1024 (j 1).val : Fin 1024) = j 1 from Fin.ext (Nat.mod_eq_of_lt hj)]
  exact congrArg _ (ix2_eta (n0 := 256) (n1 := 1024) j).symm

/-- On a chunk of known role the received half is the sender's. -/
theorem R_eq (c : Dev nD) (r k : Fin 4) {i : Shape.Idx ⟨2, ![256, 4096]⟩} (h : i ∈ cols 256 4096 (ck r k c) 256) :
    R m c i = S m (rdev c r (decide (k.val < 2))) i := by
  rw [mem_cols] at h
  have h1 := qo_lt r c
  have h2 := qo_div r c
  have hk := k.isLt
  have hd : (i 1).val / 1024 = qo r c / 1024 := by unfold ck at h; omega
  have hl : ((i 1).val % 1024 < 512) ↔ k.val < 2 := by unfold ck at h; omega
  unfold R
  rw [roleOf_qo r c _ (show (i 1).val / 1024 % 4 = qo r c / 1024 by omega), decide_eq_decide.mpr hl]

/-! ### Scaling -/

theorem colBlock_sc (v : FVec F S256x1 .f32) {n : ℕ} [NeZero n] (f : Vec F ⟨2, ![256, n]⟩ .bf16) (lo w : ℕ) :
    sc v (colBlock f lo w) = colBlock (sc v f) lo w := rfl

theorem bcast_col {n : ℕ} (v : FVec F S256x1 .f32) (h : S256x1.Broadcasts ⟨2, ![256, n]⟩) (i : Shape.Idx ⟨2, ![256, n]⟩) :
    broadcastTo ⟨2, ![256, n]⟩ v h i = v (ix2 (n0 := 256) (n1 := 1) (i 0) 0) := by
  unfold broadcastTo
  congr 1
  funext a
  match a with
  | ⟨0, _⟩ => exact Fin.ext rfl
  | ⟨1, _⟩ => exact Fin.ext rfl

theorem pay27_sc (v : FVec F S256x1 .f32) (f : Vec F S256x1024 .bf16) : k0_pay27 v f = sc v f := by
  funext i
  unfold k0_pay27
  simp only [shapeCast, Shape.reshapeEquiv_self]
  show FloatOps.truncf .bf16 bitsLt_bf16_f32 (FloatOps.mulf (FloatOps.extf .f32 bitsLt_bf16_f32 (f i)) (broadcastTo S256x1024 v broadcasts_S256x1_S256x1024 i)) = _
  rw [bcast_col]; rfl

theorem pay33_sc (v : FVec F S256x1 .f32) (f : Vec F S256x256 .bf16) : k0_pay33 v f = sc v f := by
  funext i
  unfold k0_pay33
  simp only [shapeCast, Shape.reshapeEquiv_self]
  show FloatOps.truncf .bf16 bitsLt_bf16_f32 (FloatOps.mulf (FloatOps.extf .f32 bitsLt_bf16_f32 (f i)) (broadcastTo S256x256 v broadcasts_S256x1_S256x256 i)) = _
  rw [bcast_col]; rfl

/-! ### The result's columns -/

theorem O_own (c : Dev nD) (lo w : ℕ) (h : lo + w ≤ 4096) : colBlock (O m c) (hOwn c + lo) w = colBlock (SS m c) lo w := by
  have h1 : hOwn c + 4096 ≤ 8192 := by revert c; decide
  have h2 : hOwn c = 4096 * (hOwn c / 4096) := by revert c; decide
  funext j
  have hj : (j 1).val < w := (j 1).isLt
  have hv : ((Fin.ofNat 8192 (hOwn c + lo + (j 1).val) : Fin 8192)).val = hOwn c + lo + (j 1).val := Nat.mod_eq_of_lt (by omega)
  have hq : (hOwn c + lo + (j 1).val) / 4096 = hOwn c / 4096 := by omega
  have hr : (hOwn c + lo + (j 1).val) % 4096 = lo + (j 1).val := by omega
  show Oat m c (j 0) (Fin.ofNat 8192 (hOwn c + lo + (j 1).val) : Fin 8192).val = _
  rw [hv]
  unfold Oat
  rw [if_pos hq, hr]
  rfl

theorem O_rem (c : Dev nD) (lo w : ℕ) (h : lo + w ≤ 4096) : colBlock (O m c) (hRem c + lo) w = colBlock (RR m c) lo w := by
  have h1 : hRem c + 4096 ≤ 8192 := by revert c; decide
  have h2 : hRem c = 4096 * (hRem c / 4096) := by revert c; decide
  have h3 : hRem c / 4096 ≠ hOwn c / 4096 := by revert c; decide
  funext j
  have hj : (j 1).val < w := (j 1).isLt
  have hv : ((Fin.ofNat 8192 (hRem c + lo + (j 1).val) : Fin 8192)).val = hRem c + lo + (j 1).val := Nat.mod_eq_of_lt (by omega)
  have hq : (hRem c + lo + (j 1).val) / 4096 = hRem c / 4096 := by omega
  have hr : (hRem c + lo + (j 1).val) % 4096 = lo + (j 1).val := by omega
  show Oat m c (j 0) (Fin.ofNat 8192 (hRem c + lo + (j 1).val) : Fin 8192).val = _
  rw [hv]
  unfold Oat
  rw [if_neg (hq ▸ h3), hr]
  rfl

end Cert.KernelIdeal.K

end
-- ==== Proof.Steps.lean ====
/-
The steps of the kernel's body on held columns: a load, a store, a copy within a device, the wait that lands it.
-/
module

public import proofs.«01_k».proof.Proof.Contents

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a piece of the body on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Access
variable {R N : ℕ} [NeZero N] {e : EltTy} {cs : CoreSpace} {m : Memref sig .tc cs ⟨2, ![R, N]⟩ e} {c : Dev nD} {q : PosShare TreeShare}
  {g g' : Shape.Idx ⟨2, ![R, N]⟩ → Elt F e} {α : Type} {off : Fin 2 → ℕ}

theorem slice_set {sp : Space} {m : Memref sig .tc sp ⟨2, ![R, N]⟩ e} {w : ℕ} {inb : ∀ a : Fin 2, off a + (![R, w] : Fin 2 → ℕ) a ≤ (![R, N] : Fin 2 → ℕ) a}
    {lo : ℕ} (ho : off = ![0, lo]) :
    (m.view.slice (Rect.unit (s := ⟨2, ![R, N]⟩) off ![R, w] inb)).set = m.view.setOn (cols R N lo w) := by
  rw [View.set_slice, unit_set ho]; rfl

/-- What a load of whole-height columns reads. -/
theorem readAt_cols {sp : Space} {m : Memref sig .tc sp ⟨2, ![R, N]⟩ e} {w : ℕ} {inb : ∀ a : Fin 2, off a + (![R, w] : Fin 2 → ℕ) a ≤ (![R, N] : Fin 2 → ℕ) a}
    {lo : ℕ} (ho : off = ![0, lo]) {I : Finset (Shape.Idx ⟨2, ![R, N]⟩)} (hI : cols R N lo w ⊆ I)
    {f : Buf (Elt F) (m.view.loc (c : Thread nD τ))} (hf : ∀ i ∈ I, m.view.read (Elt F) f i = g i) :
    (m.view.slice (Rect.unit (s := ⟨2, ![R, N]⟩) off ![R, w] inb)).read (Elt F) f = colBlock g lo w := by
  funext j
  have hb : lo + w ≤ N := by have := inb 1; rw [ho] at this; exact this
  have hj : (j 1).val < w := (j 1).isLt
  show m.view.read (Elt F) f ((Rect.unit (s := ⟨2, ![R, N]⟩) off ![R, w] inb).emb j) = _
  rw [unit_emb ho, hf _ (hI _)]
  · rfl
  · rw [mem_cols]
    have : ((Fin.ofNat N (lo + (j 1).val) : Fin N)).val = lo + (j 1).val := Nat.mod_eq_of_lt (by omega)
    show lo ≤ (Fin.ofNat N (lo + (j 1).val)).val ∧ (Fin.ofNat N (lo + (j 1).val)).val < lo + w
    rw [this]; omega

/-- A load of whole-height columns. -/
theorem wp_load_held {w : ℕ} {inb : ∀ a : Fin 2, off a + (![R, w] : Fin 2 → ℕ) a ≤ (![R, N] : Fin 2 → ℕ) a}
    {hl : m.view.LoadsAt (Rect.unit (s := ⟨2, ![R, N]⟩) off ![R, w] inb).toLoadRect}
    {Q : α → sProp 𝕄} {k : (Shape.Idx ⟨2, ![R, w]⟩ → Elt F e) → Prog (TpuEff nD τ sig (Elt F) Λ₀ .tc) α}
    (lo : ℕ) (ho : off = ![0, lo]) {I : Finset (Shape.Idx ⟨2, ![R, N]⟩)} (hI : cols R N lo w ⊆ I) :
    (heldOn m c I q g : sProp 𝕄) ⊢ iprop((heldOn m c I q g -∗ WP c (k (colBlock g lo w)) Q)
      -∗ WP c (.op (.load m (Rect.unit (s := ⟨2, ![R, N]⟩) off ![R, w] inb).toLoadRect hl) k) Q) := by
  unfold heldOn
  iintro ⟨%f, Hf, %hf⟩ Hk
  iapply (wp_load_rect 𝒱₀ (c : Thread nD τ) none Set.univ (m := m) (r := Rect.unit (s := ⟨2, ![R, N]⟩) off ![R, w] inb) (k := k)
    (S := m.view.setOn I) (by rw [View.set_slice, unit_set ho]; exact Finset.map_subset_map.mpr hI)) $$ Hf
  iintro Hf
  rw [readAt_cols ho hI hf]
  iapply Hk
  iexists f
  isplitl [Hf]; · iexact Hf
  ipureintro; exact hf

/-- What a write of whole-height columns leaves to read there. -/
theorem read_write_cols {sp : Space} {m : Memref sig .tc sp ⟨2, ![R, N]⟩ e} {w : ℕ} {inb : ∀ a : Fin 2, off a + (![R, w] : Fin 2 → ℕ) a ≤ (![R, N] : Fin 2 → ℕ) a}
    {lo : ℕ} (ho : off = ![0, lo]) {wv : Shape.Idx ⟨2, ![R, w]⟩ → Elt F e} (hw : wv = colBlock g' lo w)
    {f : Buf (Elt F) (m.view.loc (c : Thread nD τ))} (i : Shape.Idx ⟨2, ![R, N]⟩) (hi : i ∈ cols R N lo w) :
    m.view.read (Elt F) ((m.view.slice (Rect.unit (s := ⟨2, ![R, N]⟩) off ![R, w] inb)).write (Elt F) f wv Finset.univ) i = g' i := by
  have hb : lo + w ≤ N := by have := inb 1; rw [ho] at this; exact this
  rw [mem_cols] at hi
  have hw0 : (i 1).val - lo < w := by omega
  have h1 : (Fin.ofNat N (lo + ((i 1).val - lo)) : Fin N) = i 1 := Fin.ext (by
      show (lo + ((i 1).val - lo)) % N = (i 1).val
      have : (i 1).val < N := (i 1).isLt
      rw [Nat.mod_eq_of_lt (by omega)]; omega)
  have hi' : (Rect.unit (s := ⟨2, ![R, N]⟩) off ![R, w] inb).emb (ix2 (n0 := R) (n1 := w) (i 0) ⟨(i 1).val - lo, hw0⟩) = i := by
    rw [unit_emb ho]
    show ix2 (n0 := R) (n1 := N) (i 0) (Fin.ofNat N (lo + ((i 1).val - lo))) = i
    rw [h1]; exact ix2_eta i
  have key := View.read_slice_write_emb (v := m.view) (Val := Elt F) (Rect.unit (s := ⟨2, ![R, N]⟩) off ![R, w] inb) f wv (M := Finset.univ)
    (Finset.mem_univ (ix2 (n0 := R) (n1 := w) (i 0) ⟨(i 1).val - lo, hw0⟩))
  rw [hi'] at key
  refine key.trans ?_
  rw [hw]
  show g' (ix2 (n0 := R) (n1 := N) (i 0) (Fin.ofNat N (lo + ((i 1).val - lo)))) = g' i
  rw [h1]; exact congrArg g' (ix2_eta i)

/-- A store of whole-height columns. -/
theorem wp_store_held {w : ℕ} {inb : ∀ a : Fin 2, off a + (![R, w] : Fin 2 → ℕ) a ≤ (![R, N] : Fin 2 → ℕ) a}
    {wv : Shape.Idx ⟨2, ![R, w]⟩ → Elt F e} {hx hm}
    {Q : α → sProp 𝕄} {k : PUnit → Prog (TpuEff nD τ sig (Elt F) Λ₀ .tc) α}
    (lo : ℕ) (ho : off = ![0, lo]) (hw : wv = colBlock g' lo w) :
    (held m c lo w fullShare g : sProp 𝕄) ⊢ iprop((held m c lo w fullShare g' -∗ WP c (k ⟨⟩) Q)
      -∗ WP c (.op (.store m (Rect.unit (s := ⟨2, ![R, N]⟩) off ![R, w] inb) wv Finset.univ hx hm) k) Q) := by
  unfold held heldOn
  iintro ⟨%f, Hf, %hf⟩ Hk
  iapply (wp_store 𝒱₀ (c : Thread nD τ) none Set.univ (m := m) (r := Rect.unit (s := ⟨2, ![R, N]⟩) off ![R, w] inb) (Mk := Finset.univ) (k := k)
    (S := m.view.setOn (cols R N lo w))
    (show (m.access _).set ⊆ _ by rw [View.set_slice, unit_set ho]; exact Finset.Subset.refl _)) $$ Hf
  iintro Hf
  iapply Hk
  iexists _
  isplitl [Hf]; · iexact Hf
  ipureintro
  exact read_write_cols ho hw

end Access

/-! ## Copies within a device -/

section Copies
variable {R N R' N' : ℕ} [NeZero N] [NeZero N'] {e : EltTy} {sp sp' : Space} {m : Memref sig .tc sp ⟨2, ![R, N]⟩ e}
  {m' : Memref sig .tc sp' ⟨2, ![R, N']⟩ e} {c : Dev nD} {q : PosShare TreeShare}
  {g : Shape.Idx ⟨2, ![R, N]⟩ → Elt F e} {g' g'' : Shape.Idx ⟨2, ![R, N']⟩ → Elt F e} {α : Type} {off off' : Fin 2 → ℕ}

/-- A copy under way on `c`'s semaphore `sm`, that will deliver `D`. -/
abbrev Fly (c : Dev nD) (sm : SemLoc sig) (n : ℕ) (D : sProp 𝕄) : sProp 𝕄 := Transfers.Flight EC (c : Thread nD τ) sm () n D

/-- A copy of columns to columns. -/
theorem wp_copy_held {w : ℕ} {inb : ∀ a : Fin 2, off a + (![R, w] : Fin 2 → ℕ) a ≤ (![R, N] : Fin 2 → ℕ) a}
    {inb' : ∀ a : Fin 2, off' a + (![R, w] : Fin 2 → ℕ) a ≤ (![R, N'] : Fin 2 → ℕ) a} {hs hs'} {sm : DmaSem sig} {hsrc hdst hsem}
    {Q : α → sProp 𝕄} {k : PUnit → Prog (TpuEff nD τ sig (Elt F) Λ₀ .tc) α}
    (lo lo' n : ℕ) (ho : off = ![0, lo]) (ho' : off' = ![0, lo']) (hg : colBlock g lo w = colBlock g' lo' w)
    (hn : (m'.slice (Rect.unit (s := ⟨2, ![R, N']⟩) off' ![R, w] inb') hs').view.dmaCredit = n) (hn0 : 0 < n) :
    iprop(held m c lo w q g ∗ held m' c lo' w fullShare g'' ∗ semVal (((c : Thread nD τ), .dma sm) : GSem nD τ sig) 0)
      ⊢ (iprop((Fly c (.dma sm) n iprop(held m' c lo' w fullShare g' ∗ held m c lo w q g) -∗ WP c (k ⟨⟩) Q)
      -∗ WP c (.op (.enqueueDma (m.slice (Rect.unit (s := ⟨2, ![R, N]⟩) off ![R, w] inb) hs)
          (.here (m'.slice (Rect.unit (s := ⟨2, ![R, N']⟩) off' ![R, w] inb') hs')) (.dma sm) hsrc hdst hsem) k) Q) : sProp 𝕄) := by
  unfold held heldOn
  iintro ⟨⟨%f, Hf, %hf⟩, ⟨%f', Hf', %hf'⟩, Hv⟩ Hk
  iapply (Transfers.wp_dmaLocal EC 𝒱₀ (c : Thread nD τ) none
    (src := m.slice (Rect.unit (s := ⟨2, ![R, N]⟩) off ![R, w] inb) hs) (dst := m'.slice (Rect.unit (s := ⟨2, ![R, N']⟩) off' ![R, w] inb') hs')
    (via := .same) (sm := .dma sm) (k := k) (q := q) (fs := f) (fd := f') (Sd := m'.view.setOn (cols R N' lo' w)) () n hn hn0
    (show (m'.view.slice _).set ⊆ _ by rw [View.set_slice, unit_set ho']; exact Finset.Subset.refl _)) $$ [Hf Hf' Hv]
  · isplitl [Hf]
    · iapply (Entails.of_eq (congrArg (fun J => (m.view.loc (c : Thread nD τ) ↦[J]{q} f : sProp 𝕄))
        (slice_set (m := m) (inb := inb) ho).symm)) $$ Hf
    isplitl [Hf']; · iexact Hf'
    iexact Hv
  iintro Hfl
  iapply Hk
  iapply (Transfers.Flight_mono EC ?_) $$ Hfl
  iintro ⟨Hd, Hs⟩
  isplitl [Hd]
  · iexists _
    isplitl [Hd]; · iexact Hd
    ipureintro
    refine read_write_cols ho' ?_
    refine Eq.trans ?_ hg
    exact readAt_cols ho (Finset.Subset.refl _) hf
  · iexists f
    isplitl [Hs]
    · iapply (Entails.of_eq (congrArg (fun J => (m.view.loc (c : Thread nD τ) ↦[J]{q} f : sProp 𝕄))
        (slice_set (m := m) (inb := inb) ho))) $$ Hs
    ipureintro; exact hf

/-- The wait that lands a copy: what it delivers is back, and its semaphore at zero. -/
theorem wp_land {s s' : Shape} {e' : EltTy} {sp₁ sp₂ : Space} {κ' : Kind} {sem : DmaSem sig} {srcw : Memref sig .tc sp₁ s' e'} {dstw : Memref sig κ' sp₂ s e}
    {hsrc hdst} {Q : α → sProp 𝕄} {k : PUnit → Prog (TpuEff nD τ sig (Elt F) Λ₀ .tc) α} {n : ℕ} {D : sProp 𝕄} {O : CellTallies nD τ sig Unit}
    (hn : dstw.view.dmaCredit = n) :
    iprop(Fly c (.dma sem) n D ∗ (∃ W, owes (c : Thread nD τ) O W) ∗ MayWait (c : Thread nD τ) (.dma sem) () O)
      ⊢ (iprop((iprop(D ∗ semVal (((c : Thread nD τ), .dma sem) : GSem nD τ sig) 0 ∗ (∃ W, owes (c : Thread nD τ) O W)) -∗ WP c (k ⟨⟩) Q)
          -∗ WP c (.op (.waitDma2 sem srcw dstw hsrc hdst) k) Q) : sProp 𝕄) := by
  iintro ⟨Hfl, ⟨%W, HO⟩, Hw⟩ Hk
  iapply (Transfers.wp_waitLocalO EC 𝒱₀ (c : Thread nD τ) none () hn) $$ [Hfl HO Hw]
  · isplitl [Hfl]; · iexact Hfl
    isplitl [HO]; · iexact HO
    iexact Hw
  iintro ⟨HD, Hv, HO⟩
  iapply Hk
  isplitl [HD]; · iexact HD
  isplitl [Hv]; · iexact Hv
  iexists _; iexact HO

end Copies

end Cert.KernelIdeal.K

end
-- ==== Proof.Protocol.lean ====
/-
The protocol between the devices.  Seventeen transfers leave each device, numbered 0 … 16: chunks 0 … 3 of the owned quarter and
chunks 2, 3 of the diagonal quarter to the y neighbour (0 … 5), the received chunks of the owned quarter to the x neighbour
(6 … 9), two of the chunks received from the z neighbour on to the x neighbour (10, 11), the received chunks of the owned quarter
to the z neighbour (12 … 15), and the row sums to the y neighbour (16).  Each has a send cell at its source and a receive cell at
its target, of one round and one duty; the barrier cell of a device has one round of three duties, one of each neighbour, and the
payload of a neighbour's duty is the columns of ITS landing buffers this device will write.
-/
module

public import proofs.«01_k».proof.Proof.Steps

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The buffers -/

abbrev xH : Memref sig .tc .hbm S256x512 .f32 := Memref.whole main_arg0
abbrev wH : Memref sig .tc .hbm S512x4096 .f32 := Memref.whole main_arg1
abbrev oH : Memref sig .tc .hbm S256x8192 .bf16 := Memref.whole main_v1
abbrev xM : Memref sig .tc .vmem S256x512 .f32 := Memref.whole cc0_scratch0
abbrev wM : Memref sig .tc .vmem S2x512x1024 .f32 := Memref.whole cc0_scratch1
abbrev sM : Memref sig .tc .vmem S256x4096 .bf16 := Memref.whole cc0_scratch2
abbrev rM : Memref sig .tc .vmem S256x4096 .bf16 := Memref.whole cc0_scratch3
abbrev aM : Memref sig .tc .vmem S256x128 .bf16 := Memref.whole cc0_scratch4
abbrev bM : Memref sig .tc .vmem S256x128 .bf16 := Memref.whole cc0_scratch5

/-! ## The table of transfers -/

def peer (k : Fin 17) (c : Dev nD) : Dev nD := if k.val < 6 ∨ k.val = 16 then py c else if k.val < 12 then px c else pz c
/-- The role and chunk of the columns transfer `k` moves, at its source and at its target. -/
def role : Fin 17 → Fin 4 := ![0, 0, 0, 0, 3, 3, 0, 0, 0, 0, 2, 2, 0, 0, 0, 0, 0]
def rrole : Fin 17 → Fin 4 := ![0, 0, 0, 0, 3, 3, 1, 1, 1, 1, 3, 3, 2, 2, 2, 2, 0]
def chnk : Fin 17 → Fin 4 := ![0, 1, 2, 3, 2, 3, 0, 1, 2, 3, 0, 1, 0, 1, 2, 3, 0]
/-- The first column transfer `k` of device `c` moves. -/
def lo (k : Fin 17) (c : Dev nD) : ℕ := ck (role k) (chnk k) c

theorem peer_peer (k : Fin 17) (c : Dev nD) : peer k (peer k c) = c := by revert k c; decide +kernel
theorem lo_at_peer (k : Fin 17) (c : Dev nD) : lo k c = ck (rrole k) (chnk k) (peer k c) := by
  revert k c; decide +kernel
theorem lo_of_peer (k : Fin 17) (c : Dev nD) : lo k (peer k c) = ck (rrole k) (chnk k) c := by
  rw [lo_at_peer, peer_peer]

/-! ## Semaphores and cells -/

theorem nDma : sig.nDmaSem = 54 := by decide
/-- The semaphore of a transfer's departure and of its arrival. -/
def sIx : Fin 17 → ℕ := ![22, 23, 24, 25, 26, 27, 34, 35, 36, 37, 38, 39, 46, 47, 48, 49, 20]
def rIx : Fin 17 → ℕ := ![28, 29, 30, 31, 32, 33, 40, 41, 42, 43, 44, 45, 50, 51, 52, 53, 21]
theorem sIx_lt (k : Fin 17) : sIx k < sig.nDmaSem := by rw [nDma]; revert k; decide
theorem rIx_lt (k : Fin 17) : rIx k < sig.nDmaSem := by rw [nDma]; revert k; decide
def sS (k : Fin 17) : DmaSem sig := ⟨sIx k, sIx_lt k⟩
def sR (k : Fin 17) : DmaSem sig := ⟨rIx k, rIx_lt k⟩
/-- The semaphores of copies within a device. -/
def sL (i : Fin 20) : DmaSem sig := ⟨i.val, by rw [nDma]; omega⟩
abbrev barS : Sem sig := (SemArray.scalar (sig.barrier 0 rfl) : Sems sig S_).sem

abbrev sendCell (k : Fin 17) (c : Dev nD) : GSem nD τ sig := ((c : Thread nD τ), .dma (sS k))
abbrev recvCell (k : Fin 17) (c : Dev nD) : GSem nD τ sig := ((c : Thread nD τ), .dma (sR k))
abbrev barCell (c : Dev nD) : GSem nD τ sig := ((c : Thread nD τ), .reg barS)

/-- Which transfer a semaphore belongs to: its departure on the left, its arrival on the right. -/
def kindOf (i : ℕ) : Option (Fin 17 ⊕ Fin 17) :=
  match (List.finRange 17).find? (fun k => sIx k == i) with
  | some k => some (.inl k)
  | none => match (List.finRange 17).find? (fun k => rIx k == i) with
    | some k => some (.inr k)
    | none => none
theorem kindOf_s (k : Fin 17) : kindOf (sIx k) = some (.inl k) := by revert k; decide +kernel
theorem kindOf_r (k : Fin 17) : kindOf (rIx k) = some (.inr k) := by revert k; decide +kernel
theorem kindOf_l (i : Fin 20) : kindOf i.val = none := by revert i; decide +kernel

/-! ## Amounts -/

/-- What one chunk and one block of row sums credits. -/
def NB : ℕ := (rM.slice (Rect.unit (s := S256x4096) ![0, 0] S256x256.size (by decide)) (fun _ => rfl)).view.dmaCredit
def NS : ℕ := bM.view.dmaCredit
theorem NB_pos : 0 < NB := View.dmaCredit_pos _ (by decide)
theorem NS_pos : 0 < NS := View.dmaCredit_pos _ (by decide)
def amt (k : Fin 17) : ℕ := if k = 16 then NS else NB
theorem amt_pos (k : Fin 17) : 0 < amt k := by unfold amt; split; exacts [NS_pos, NB_pos]

/-! ## Payloads -/

variable (m : (ℓ : Loc nD τ sig) → Buf (Elt F) ℓ)

/-- What comes back when transfer `k` has left: its source, at the share it was sent with. -/
def sendPay (k : Fin 17) (c : Dev nD) : sProp 𝕄 :=
  if k.val < 6 then held sM c (lo k c) 256 fullShare (S m c)
  else if k.val < 10 then held rM c (lo k c) 256 fullShare.left (R m c)
  else if k.val < 12 then held rM c (lo k c) 256 fullShare (R m c)
  else if k.val < 16 then held rM c (lo k c) 256 fullShare.right (R m c)
  else held aM c 0 128 fullShare (st m c)
/-- What arrives at `c` with transfer `k`: the landing columns, holding the unscaled received half, or the row sums. -/
def recvPay (k : Fin 17) (c : Dev nD) : sProp 𝕄 :=
  if k.val < 16 then held rM c (ck (rrole k) (chnk k) c) 256 fullShare (R m c)
  else held bM c 0 128 fullShare (st m (py c))
/-- The landing columns transfer `k` of device `c` writes, holding anything. -/
def dst (k : Fin 17) (c : Dev nD) : sProp 𝕄 :=
  if k.val < 16 then iprop(∃ g, held (F := F) rM (peer k c) (lo k c) 256 fullShare g)
  else iprop(∃ g, held (F := F) bM (peer k c) 0 128 fullShare g)

/-- What a neighbour's signal hands device `d`. -/
def barPay (d : Dev nD) (a : Fin 3) : sProp 𝕄 :=
  if a = 0 then iprop(dst 0 d ∗ dst 1 d ∗ dst 2 d ∗ dst 3 d ∗ dst 4 d ∗ dst 5 d ∗ dst 16 d)
  else if a = 1 then iprop(dst 6 d ∗ dst 7 d ∗ dst 8 d ∗ dst 9 d ∗ dst 10 d ∗ dst 11 d)
  else iprop(dst 12 d ∗ dst 13 d ∗ dst 14 d ∗ dst 15 d)

omit [FloatOps F] in
instance dst_storable (k : Fin 17) (c : Dev nD) : BI.Storable (upEmb : UEmb _ 𝕄) (dst (F := F) k c) := by
  unfold dst; split <;> infer_instance
omit [FloatOps F] in
instance barPay_storable (d : Dev nD) (a : Fin 3) : BI.Storable (upEmb : UEmb _ 𝕄) (barPay (F := F) d a) := by
  unfold barPay; (repeat' split) <;> infer_instance
instance sendPay_storable (k : Fin 17) (c : Dev nD) : BI.Storable (upEmb : UEmb _ 𝕄) (sendPay m k c) := by
  unfold sendPay; (repeat' split) <;> infer_instance
instance recvPay_storable (k : Fin 17) (c : Dev nD) : BI.Storable (upEmb : UEmb _ 𝕄) (recvPay m k c) := by
  unfold recvPay; (repeat' split) <;> infer_instance

def payOf (c : Dev nD) : Option (Fin 17 ⊕ Fin 17) → sProp 𝕄
  | some (.inl k) => sendPay m k c
  | some (.inr k) => recvPay m k c
  | none => iprop(emp)
def amtOf : Option (Fin 17 ⊕ Fin 17) → ℕ
  | some (.inl k) => amt k
  | some (.inr k) => amt k
  | none => 1
def dutiesOf : SemLoc sig → Finset (Fin 3)
  | .reg s => if s = barS then Finset.univ else ∅
  | .dma s => if kindOf s.val = none then ∅ else {0}

/-- The schedule of every cell: one round. -/
def Rd : Rounds.Schedule (GSem nD τ sig) (Fin 3) 𝕄 where
  duties g r := if r = 0 ∧ g.1.2 = .tc then dutiesOf g.2 else ∅
  unitless _ := False
  amount g _ _ := match g.2 with
    | .reg _ => 1
    | .dma s => amtOf (kindOf s.val)
  payload g _ d := match g.2 with
    | .reg _ => barPay g.1.1 d
    | .dma s => payOf m g.1.1 (kindOf s.val)
  amount_pos g _ _ _ := by
    cases g.2 with
    | reg s => exact Nat.one_pos
    | dma s =>
      show 0 < amtOf (kindOf s.val)
      generalize kindOf s.val = o
      match o with
      | some (.inl k) => exact amt_pos k
      | some (.inr k) => exact amt_pos k
      | none => exact Nat.one_pos

instance Rd_payload_storable (g : GSem nD τ sig) (r : ℕ) (d : Fin 3) : BI.Storable (upEmb : UEmb _ 𝕄) ((Rd (F := F) m).payload g r d) := by
  obtain ⟨t, s⟩ := g
  cases s with
  | reg s => show BI.Storable upEmb (barPay t.1 d); infer_instance
  | dma s =>
    show BI.Storable upEmb (payOf m t.1 (kindOf s.val))
    generalize kindOf s.val = o
    match o with
    | some (.inl k) => show BI.Storable upEmb (sendPay m k t.1); infer_instance
    | some (.inr k) => show BI.Storable upEmb (recvPay m k t.1); infer_instance
    | none => show BI.Storable upEmb (iprop(emp)); infer_instance

section Sched
variable (k : Fin 17) (c : Dev nD) (d : Fin 3)

theorem duties_bar : (Rd (F := F) m).duties (barCell c) 0 = Finset.univ := by
  dsimp only [Rd]; rw [if_pos ⟨rfl, rfl⟩]
  show (if barS = barS then Finset.univ else ∅) = _
  exact if_pos rfl
theorem duties_send : (Rd (F := F) m).duties (sendCell k c) 0 = {0} := by
  dsimp only [Rd]; rw [if_pos ⟨rfl, rfl⟩]
  show (if kindOf (sIx k) = none then ∅ else {0}) = _
  rw [kindOf_s]; rfl
theorem duties_recv : (Rd (F := F) m).duties (recvCell k c) 0 = {0} := by
  dsimp only [Rd]; rw [if_pos ⟨rfl, rfl⟩]
  show (if kindOf (rIx k) = none then ∅ else {0}) = _
  rw [kindOf_r]; rfl
theorem duties_later (g : GSem nD τ sig) : ∀ r, 1 ≤ r → (Rd (F := F) m).duties g r = ∅ :=
  fun r hr => by dsimp only [Rd]; exact if_neg fun h => by omega

theorem amount_bar : (Rd (F := F) m).amount (barCell c) 0 d = 1 := rfl
theorem amount_send : (Rd (F := F) m).amount (sendCell k c) 0 d = amt k := by
  show amtOf (kindOf (sIx k)) = _; rw [kindOf_s]; rfl
theorem amount_recv : (Rd (F := F) m).amount (recvCell k c) 0 d = amt k := by
  show amtOf (kindOf (rIx k)) = _; rw [kindOf_r]; rfl

theorem expect_bar : (Rd (F := F) m).expect (barCell c) 0 = 3 := by
  unfold Schedule.expect Schedule.amountOf; rw [duties_bar]; rfl
theorem expect_send : (Rd (F := F) m).expect (sendCell k c) 0 = amt k := by
  unfold Schedule.expect Schedule.amountOf; rw [duties_send, Finset.sum_singleton, amount_send]
theorem expect_recv : (Rd (F := F) m).expect (recvCell k c) 0 = amt k := by
  unfold Schedule.expect Schedule.amountOf; rw [duties_recv, Finset.sum_singleton, amount_recv]

theorem payload_bar : (Rd (F := F) m).payload (barCell c) 0 d = barPay c d := rfl
theorem payload_send : (Rd (F := F) m).payload (sendCell k c) 0 d = sendPay m k c := by
  show payOf m c (kindOf (sIx k)) = _; rw [kindOf_s]; rfl
theorem payload_recv : (Rd (F := F) m).payload (recvCell k c) 0 d = recvPay m k c := by
  show payOf m c (kindOf (rIx k)) = _; rw [kindOf_r]; rfl

theorem rest_bar : bigSep ((Rd (F := F) m).duties (barCell c) 0 \ ∅) (fun u => (Rd (F := F) m).payload (barCell c) 0 u)
    = iprop(barPay c 0 ∗ barPay c 1 ∗ barPay c 2) := by
  rw [Finset.sdiff_empty, duties_bar]
  exact bigSep_univ_eq_bigSepL [0, 1, 2] (by decide) (by decide) _
theorem rest_send : bigSep ((Rd (F := F) m).duties (sendCell k c) 0 \ ∅) (fun u => (Rd (F := F) m).payload (sendCell k c) 0 u) = sendPay m k c := by
  rw [Finset.sdiff_empty, duties_send, bigSep_singleton, payload_send]
theorem rest_recv : bigSep ((Rd (F := F) m).duties (recvCell k c) 0 \ ∅) (fun u => (Rd (F := F) m).payload (recvCell k c) 0 u) = recvPay m k c := by
  rw [Finset.sdiff_empty, duties_recv, bigSep_singleton, payload_recv]

end Sched

/-! ## What is owed, and the levels -/

/-- The arrivals device `c` still owes, the next one first. -/
def owed (c : Dev nD) : List (Fin 17) → CellTallies nD τ sig Unit
  | [] => 0
  | k :: ks => owed c ks + tallyAt (recvCell k (peer k c)) () (amt k)

def allK : List (Fin 17) := [0, 1, 2, 3, 4, 5, 6, 12, 7, 13, 8, 14, 16, 9, 15, 10, 11]

/-- What device `c` owes at the start: the arrivals and a unit on each neighbour's barrier. -/
def O₀ (c : Dev nD) : CellTallies nD τ sig Unit :=
  owed c allK + tallyAt (barCell (pz c)) () 1 + tallyAt (barCell (px c)) () 1 + tallyAt (barCell (py c)) () 1

def lvR (k : Fin 17) : ℕ := if k.val < 6 then 2 else if k.val = 10 ∨ k.val = 11 then 4 else 3
def lvOf : Option (Fin 17 ⊕ Fin 17) → ℕ
  | some (.inr k) => lvR k
  | _ => 0
def L (g : GSem nD τ sig) : Finset Unit := if g.1.2 = .tc then {()} else ∅
def lv (g : GSem nD τ sig) (_ : Unit) : ℕ := match g.2 with
  | .reg _ => 1
  | .dma s => lvOf (kindOf s.val)
theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 17) (c : Dev nD) (u : Unit) : lv (recvCell k c) u = lvR k := by
  show lvOf (kindOf (rIx k)) = _; rw [kindOf_r]; rfl

theorem owed_pos {c : Dev nD} {ks : List (Fin 17)} {g : GSem nD τ sig} {u : Unit} (h : 0 < owed c ks g u) :
    ∃ k ∈ ks, g = recvCell k (peer k c) := by
  induction ks with
  | nil => exact absurd h (Nat.lt_irrefl 0)
  | cons k ks ih =>
    unfold owed at h
    rw [Pi.add_apply, Finsupp.add_apply, tallyAt_apply] at h
    by_cases hg : g = recvCell k (peer k c)
    · exact ⟨k, List.mem_cons_self, hg⟩
    · rw [if_neg (fun h' => hg h'.1), Nat.add_zero] at h
      obtain ⟨k', hk', he⟩ := ih h
      exact ⟨k', List.mem_cons_of_mem _ hk', he⟩

omit [FloatOps F] in
/-- A wait below every arrival still owed is allowed. -/
theorem mayWait (c : Dev nD) (sm : SemLoc sig) (ks : List (Fin 17)) (h : ∀ k ∈ ks, lv ((c : Thread nD τ), sm) () < lvR k) :
    (levAts L lv : sProp 𝕄) ⊢ MayWait (c : Thread nD τ) sm () (owed c ks) :=
  MayOwe.of_cut (L := L) (lev := lv) (lv ((c : Thread nD τ), sm) ())
    (fun p hp => by rw [Finset.mem_singleton.mp hp, L_tc]; exact Finset.mem_singleton_self _)
    (fun g u hg => by obtain ⟨k, _, rfl⟩ := owed_pos hg; rw [L_tc]; exact Finset.mem_singleton_self _)
    (fun p hp => by rw [Finset.mem_singleton.mp hp])
    (fun g u hg => by obtain ⟨k, hk, rfl⟩ := owed_pos hg; rw [lv_recv]; exact h k hk)

/-! ## The cells of a device, and what it keeps of them -/

/-- A device's cells: its barrier, its departures, its arrivals. -/
abbrev Cell : Type := Option (Fin 17 ⊕ Fin 17)
def kcell (p : Dev nD × Cell) : GSem nD τ sig := match p.2 with
  | none => barCell p.1
  | some (.inl k) => sendCell k p.1
  | some (.inr k) => recvCell k p.1

/-- The invariants of all the cells, and that each has reached its round. -/
def records (K : Dev nD × Cell → ℕ) : sProp 𝕄 :=
  iprop((bigSep Finset.univ fun p : Dev nD × Cell => cellInv ER (Rd m) (K p) (kcell p))
    ∗ bigSep Finset.univ fun p : Dev nD × Cell => reached ER (kcell p) 0)
instance records_persistent (K : Dev nD × Cell → ℕ) : BI.Persistent (records m K) := by unfold records; infer_instance

theorem inv_at (K : Dev nD × Cell → ℕ) (p : Dev nD × Cell) : records m K ⊢ cellInv ER (Rd m) (K p) (kcell p) := by
  unfold records
  iintro ⟨H, -⟩
  iapply (show (bigSep Finset.univ fun p : Dev nD × Cell => (cellInv ER (Rd m) (K p) (kcell p) : sProp 𝕄)) ⊢ cellInv ER (Rd m) (K p) (kcell p) from
    bigSep_elim (Finset.mem_univ p))
  iexact H
theorem reached_at (K : Dev nD × Cell → ℕ) (p : Dev nD × Cell) : records m K ⊢ reached ER (kcell p) 0 := by
  unfold records
  iintro ⟨-, H⟩
  iapply (show (bigSep Finset.univ fun p : Dev nD × Cell => (reached ER (kcell p) 0 : sProp 𝕄)) ⊢ reached ER (kcell p) 0 from
    bigSep_elim (Finset.mem_univ p))
  iexact H

section Kits
variable (k : Fin 17) (c : Dev nD)

/-- What a transfer needs: the tokens of the two duties it pays, and the position at its departure. -/
def Kit : sProp 𝕄 := iprop(dutyTok ER (sendCell k c) 0 0 ∗ dutyTok ER (recvCell k (peer k c)) 0 0 ∗ atPos ER (sendCell k c) 0 ∅ 0)
/-- What its departure's wait needs once it is sent. -/
def Sent : sProp 𝕄 := iprop(cred (tallyAt (sendCell k c) () (amt k)) ∗ atPos ER (sendCell k c) 0 ∅ 0)
/-- What an arrival's wait needs. -/
def Rcv : sProp 𝕄 := iprop(cred (tallyAt (recvCell k c) () (amt k)) ∗ atPos ER (recvCell k c) 0 ∅ 0)
/-- Counters at zero. -/
def Zs : sProp 𝕄 := semVal (sendCell k c) 0
def Zr : sProp 𝕄 := semVal (recvCell k c) 0
def Zl (i : Fin 20) : sProp 𝕄 := semVal (((c : Thread nD τ), .dma (sL i)) : GSem nD τ sig) 0
def Zb : sProp 𝕄 := semVal (barCell c) 0

/-- Device `c` owes the arrivals `ks`. -/
def Owes (ks : List (Fin 17)) : sProp 𝕄 := iprop(∃ W, owes (c : Thread nD τ) (owed c ks) W)

end Kits

end Cert.KernelIdeal.K

end
-- ==== Proof.Remote.lean ====
/-
The steps between devices: sending columns or the row sums, waiting for an arrival, waiting for a departure, signalling a
neighbour's barrier and waiting on the own one.
-/
module

public import proofs.«01_k».proof.Proof.Protocol

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-! ## What is sent agrees with what should arrive -/

theorem rdev_own (k : Fin 17) (c : Dev nD) (hk : k.val < 6) : rdev (peer k c) (rrole k) (decide ((chnk k).val < 2)) = c := by
  revert hk k c; decide +kernel
theorem rdev_on (k : Fin 17) (c : Dev nD) (hk : 6 ≤ k.val) (hk' : k.val < 16) :
    rdev c (role k) (decide ((chnk k).val < 2)) = rdev (peer k c) (rrole k) (decide ((chnk k).val < 2)) := by
  revert hk hk' k c; decide +kernel

/-- The columns transfer `k` of device `c` moves out of the send buffer are what its peer should receive there. -/
theorem sent_own (k : Fin 17) (c : Dev nD) (hk : k.val < 6) {i : Shape.Idx ⟨2, ![256, 4096]⟩} (h : i ∈ cols 256 4096 (lo k c) 256) :
    S m c i = R m (peer k c) i := by
  rw [lo_at_peer] at h
  rw [R_eq m _ _ _ h]
  rw [rdev_own k c hk]
/-- The columns it moves out of the landing buffer, too. -/
theorem sent_on (k : Fin 17) (c : Dev nD) (hk : 6 ≤ k.val) (hk' : k.val < 16) {i : Shape.Idx ⟨2, ![256, 4096]⟩} (h : i ∈ cols 256 4096 (lo k c) 256) :
    R m c i = R m (peer k c) i := by
  have h' := h
  rw [lo_at_peer] at h
  rw [R_eq m _ _ _ h, R_eq m c (role k) (chnk k) h']
  rw [rdev_on k c hk hk']

/-! ## Sending -/

section Send
variable {k : Fin 17} {c : Dev nD} {ks : List (Fin 17)} {α : Type}

/-- Sending columns of one of the two column buffers. -/
theorem wp_send_cols {Q : α → sProp 𝕄} {cont : PUnit → Prog (TpuEff nD τ sig (Elt F) Λ₀ .tc) α} {n : Dev nD} (hn : n = peer k c)
    {ms : Memref sig .tc .vmem S256x4096 .bf16} {q : PosShare TreeShare} {g : Shape.Idx S256x4096 → Elt F .bf16} {off off' : Fin 2 → ℕ}
    {inb : ∀ a : Fin 2, off a + (![256, 256] : Fin 2 → ℕ) a ≤ (![256, 4096] : Fin 2 → ℕ) a}
    {inb' : ∀ a : Fin 2, off' a + (![256, 256] : Fin 2 → ℕ) a ≤ (![256, 4096] : Fin 2 → ℕ) a} {hs hs'} {sd sa : DmaSem sig} {hsc hsrc hdst hsem}
    (hk : k.val < 16) (ho : off = ![0, lo k c]) (ho' : off' = ![0, lo k c]) (hsd : sd = sS k) (hsa : sa = sR k)
    (hpay : (held ms c (lo k c) 256 q g : sProp 𝕄) ⊢ sendPay m k c) (hcont : ∀ i ∈ cols 256 4096 (lo k c) 256, g i = R m (peer k c) i) :
    iprop(records m K ∗ held ms c (lo k c) 256 q g ∗ dst k c ∗ Kit k c ∗ Owes c (k :: ks))
      ⊢ (iprop((iprop(Sent k c ∗ Owes c ks) -∗ WP c (cont ⟨⟩) Q)
        -∗ WP c (.op (.enqueueDma (ms.slice (Rect.unit (s := S256x4096) off ![256, 256] inb) hs)
          (.remote (Dev.tc n : Thread nD τ) (rM.slice (Rect.unit (s := S256x4096) off' ![256, 256] inb') hs') (.dma sd) hsc) (.dma sa) hsrc hdst hsem) cont) Q) : sProp 𝕄) := by
  subst hn hsd hsa
  unfold Kit Owes Sent
  rw [show dst (F := F) k c = iprop(∃ g, held (F := F) rM (peer k c) (lo k c) 256 fullShare g) from if_pos hk]
  unfold held heldOn at hpay ⊢
  iintro ⟨#HR, ⟨%f, Hf, %hf⟩, ⟨%g', %f', Hf', %hf'⟩, ⟨Ht1, Ht2, Hat⟩, ⟨%W, HO⟩⟩ Hk
  iapply (Rounds.wp_send_pointsTo 𝒱₀ ER (Rd m) (c : Thread nD τ) none (c' := (peer k c : Thread nD τ)) (κ₁ := K (c, some (.inl k))) (κ₂ := K (peer k c, some (.inr k)))
    (src := ms.slice (Rect.unit (s := S256x4096) off ![256, 256] inb) hs) (dst := rM.slice (Rect.unit (s := S256x4096) off' ![256, 256] inb') hs')
    (sS := .dma (sS k)) (sem := .dma (sR k)) (q := q) (fs := f) (fd := f') (k := cont)
    (r₁ := 0) (r₂ := 0) (d₁ := 0) (d₂ := 0)
    (by rw [duties_send]; exact Finset.mem_singleton_self _) (by rw [duties_recv]; exact Finset.mem_singleton_self _)
    () () (amt k) (show _ = amt k by unfold amt; rw [if_neg (fun h => by rw [h] at hk; exact absurd hk (by decide))]; rfl)
    (amount_send m k c 0) (amount_recv m k (peer k c) 0) (owed c ks) rfl (W := W)
    (by
      rw [payload_send]
      refine (show (_ : sProp 𝕄) ⊢ _ from ?_).trans hpay
      iintro H
      iexists f
      isplitl [H]
      · iapply (Entails.of_eq (congrArg (fun J => (ms.view.loc (c : Thread nD τ) ↦[J]{q} f : sProp 𝕄)) (slice_set (m := ms) (inb := inb) ho))) $$ H
      · ipureintro; exact hf)
    (by
      rw [payload_recv, show recvPay m k (peer k c) = held rM (peer k c) (ck (rrole k) (chnk k) (peer k c)) 256 fullShare (R m (peer k c)) from if_pos hk,
        ← lo_at_peer]
      unfold held heldOn
      iintro H
      iexists _
      isplitl [H]
      · iapply (Entails.of_eq (congrArg (fun J => ((rM : Memref sig .tc .vmem S256x4096 .bf16).view.loc (peer k c : Thread nD τ) ↦[J]{fullShare} _ : sProp 𝕄))
          (slice_set (m := rM) (inb := inb') ho'))) $$ H
      · ipureintro
        refine read_write_cols ho' ?_
        refine Eq.trans (readAt_cols ho (Finset.Subset.refl _) hf) ?_
        funext j
        refine hcont _ ?_
        rw [mem_cols]
        have hb : lo k c + 256 ≤ 4096 := by have := inb 1; rw [ho] at this; exact this
        have hj : (j 1).val < 256 := (j 1).isLt
        have : ((Fin.ofNat 4096 (lo k c + (j 1).val) : Fin 4096)).val = lo k c + (j 1).val := Nat.mod_eq_of_lt (by omega)
        show lo k c ≤ (Fin.ofNat 4096 (lo k c + (j 1).val)).val ∧ (Fin.ofNat 4096 (lo k c + (j 1).val)).val < lo k c + 256
        rw [this]; omega)) $$ [Hf Hf' HO Ht1 Ht2]
  · isplitr; · iapply (inv_at m K (c, some (.inl k))); iexact HR
    isplitr; · iapply (inv_at m K (peer k c, some (.inr k))); iexact HR
    isplitl [Hf]
    · iapply (Entails.of_eq (congrArg (fun J => (ms.view.loc (c : Thread nD τ) ↦[J]{q} f : sProp 𝕄)) (slice_set (m := ms) (inb := inb) ho).symm)) $$ Hf
    isplitl [Hf']
    · iapply (Entails.of_eq (congrArg (fun J => ((rM : Memref sig .tc .vmem S256x4096 .bf16).view.loc (peer k c : Thread nD τ) ↦[J]{fullShare} f' : sProp 𝕄))
        (slice_set (m := rM) (inb := inb') ho').symm)) $$ Hf'
    isplitl [HO]; · iexact HO
    isplitl [Ht1]; · iexact Ht1
    isplitr; · iapply (reached_at m K (c, some (.inl k))); iexact HR
    isplitl [Ht2]; · iexact Ht2
    iapply (reached_at m K (peer k c, some (.inr k))); iexact HR
  iintro ⟨Hc, HO⟩
  iapply Hk
  isplitl [Hc Hat]
  · isplitl [Hc] <;> iassumption
  iexists W; iexact HO

/-- Sending the row sums. -/
theorem wp_send_stats {Q : α → sProp 𝕄} {cont : PUnit → Prog (TpuEff nD τ sig (Elt F) Λ₀ .tc) α} {n : Dev nD} (hn : n = py c)
    {sd sa : DmaSem sig} {hsc hsrc hdst hsem} (hsd : sd = sS 16) (hsa : sa = sR 16) :
    iprop(records m K ∗ held aM c 0 128 fullShare (st m c) ∗ dst 16 c ∗ Kit 16 c ∗ Owes c (16 :: ks))
      ⊢ (iprop((iprop(Sent 16 c ∗ Owes c ks) -∗ WP c (cont ⟨⟩) Q)
        -∗ WP c (.op (.enqueueDma (aM : Memref sig .tc .vmem S256x128 .bf16) (.remote (Dev.tc n : Thread nD τ) bM (.dma sd) hsc) (.dma sa) hsrc hdst hsem) cont) Q) : sProp 𝕄) := by
  subst hn hsd hsa
  unfold Kit Owes Sent
  rw [show dst (F := F) 16 c = iprop(∃ g, held (F := F) bM (py c) 0 128 fullShare g) from rfl]
  unfold held heldOn
  rw [cols_univ]
  iintro ⟨#HR, ⟨%f, Hf, %hf⟩, ⟨%g', %f', Hf', %hf'⟩, ⟨Ht1, Ht2, Hat⟩, ⟨%W, HO⟩⟩ Hk
  iapply (Rounds.wp_send_pointsTo 𝒱₀ ER (Rd m) (c : Thread nD τ) none (c' := (py c : Thread nD τ)) (κ₁ := K (c, some (.inl 16))) (κ₂ := K (py c, some (.inr 16)))
    (src := (aM : Memref sig .tc .vmem S256x128 .bf16)) (dst := (bM : Memref sig .tc .vmem S256x128 .bf16))
    (sS := .dma (sS 16)) (sem := .dma (sR 16)) (q := fullShare) (fs := f) (fd := f') (k := cont)
    (r₁ := 0) (r₂ := 0) (d₁ := 0) (d₂ := 0)
    (by rw [duties_send]; exact Finset.mem_singleton_self _) (by rw [duties_recv]; exact Finset.mem_singleton_self _)
    () () (amt 16) rfl
    (amount_send m 16 c 0) (amount_recv m 16 (py c) 0) (owed c ks) rfl (W := W)
    (by
      rw [payload_send, show sendPay m 16 c = held aM c 0 128 fullShare (st m c) from rfl]
      unfold held heldOn
      rw [cols_univ]
      iintro H
      iexists f
      isplitl [H]; · iexact H
      ipureintro; exact hf)
    (by
      rw [payload_recv, show recvPay m 16 (py c) = held bM (py c) 0 128 fullShare (st m (py (py c))) from rfl, py_py]
      unfold held heldOn
      rw [cols_univ]
      iintro H
      iexists _
      isplitl [H]; · iexact H
      ipureintro
      intro i hi
      rw [View.read_write_univ]
      exact hf i hi)) $$ [Hf Hf' HO Ht1 Ht2]
  · isplitr; · iapply (inv_at m K (c, some (.inl 16))); iexact HR
    isplitr; · iapply (inv_at m K (py c, some (.inr 16))); iexact HR
    isplitl [Hf]; · iexact Hf
    isplitl [Hf']; · iexact Hf'
    isplitl [HO]; · iexact HO
    isplitl [Ht1]; · iexact Ht1
    isplitr; · iapply (reached_at m K (c, some (.inl 16))); iexact HR
    isplitl [Ht2]; · iexact Ht2
    iapply (reached_at m K (py c, some (.inr 16))); iexact HR
  iintro ⟨Hc, HO⟩
  iapply Hk
  isplitl [Hc Hat]
  · isplitl [Hc] <;> iassumption
  iexists W; iexact HO

/-! ## Waiting -/

variable {s s' : Shape} {e e' : EltTy} {sp₁ sp₂ : Space} {κ' : Kind} {sem : DmaSem sig} {srcw : Memref sig .tc sp₁ s' e'} {dstw : Memref sig κ' sp₂ s e}
  {hsrc : srcw.view.WordExact} {hdst : dstw.view.WordExact}

/-- The wait for an arrival: the landing columns are there, and the counter is at zero for good. -/
theorem wp_recv {Q : α → sProp 𝕄} {cont : PUnit → Prog (TpuEff nD τ sig (Elt F) Λ₀ .tc) α}
    (hsem : sem = sR k) (hn : dstw.view.dmaCredit = amt k) (hks : ∀ k' ∈ ks, lvR k < lvR k') :
    iprop(records m K ∗ levAts L lv ∗ Rcv k c ∗ Owes c ks)
      ⊢ (iprop((iprop(recvPay m k c ∗ Zr k c ∗ Owes c ks) -∗ WP c (cont ⟨⟩) Q)
          -∗ WP c (.op (.waitDma2 sem srcw dstw hsrc hdst) cont) Q) : sProp 𝕄) := by
  subst hsem
  unfold Rcv Owes Zr
  iintro ⟨#HR, #HL, ⟨Hc, Hat⟩, ⟨%W, HO⟩⟩ Hk
  iapply (Rounds.wp_wait_rest_token 𝒱₀ ER (Rd m) (c : Thread nD τ) none (κ := K (c, some (.inr k))) (k' := amt k)
      (fun Kt => (wpE_waitDma2_eq 𝒱₀ (c : Thread nD τ) none Set.univ Kt).trans (by rw [hn])) (Set.mem_univ _) () (O := owed c ks) (W := W) (R := 0) (m := 0) (T := ∅)
      (by rw [Nat.zero_add, expect_recv])) $$ [Hc HO Hat]
  · isplitr; · iapply (inv_at m K (c, some (.inr k))); iexact HR
    isplitl [Hc]; · iexact Hc
    isplitl [HO]; · iexact HO
    isplitr; · iapply (mayWait c (.dma (sR k)) ks (fun k' hk' => by rw [show lv ((c : Thread nD τ), SemLoc.dma (sR k)) () = lvR k from lv_recv k c ()]; exact hks k' hk')); iexact HL
    iexact Hat
  iintro ⟨HO, Hat, -, Hpay⟩
  ihave Hp := (Entails.of_eq (rest_recv m k c)) $$ Hpay
  imod (Rounds.cell_close ER (Rd m) (Set.mem_univ (K (c, some (.inr k)))) (fun h => h) (R := 0 + 1) (duties_later m (recvCell k c))) $$ [Hat] with Hz
  · isplitr; · iapply (inv_at m K (c, some (.inr k))); iexact HR
    iexact Hat
  iapply Hk
  isplitl [Hp]; · iexact Hp
  isplitl [Hz]; · iexact Hz
  iexists _; iexact HO

/-- The wait for a departure: the source is back, and the counter is at zero for good. -/
theorem wp_back {Q : α → sProp 𝕄} {cont : PUnit → Prog (TpuEff nD τ sig (Elt F) Λ₀ .tc) α}
    (hsem : sem = sS k) (hn : dstw.view.dmaCredit = amt k) :
    iprop(records m K ∗ Sent k c ∗ Owes c [])
      ⊢ (iprop((iprop(sendPay m k c ∗ Zs k c ∗ Owes c []) -∗ WP c (cont ⟨⟩) Q)
          -∗ WP c (.op (.waitDma2 sem srcw dstw hsrc hdst) cont) Q) : sProp 𝕄) := by
  subst hsem
  unfold Sent Owes Zs
  iintro ⟨#HR, ⟨Hc, Hat⟩, ⟨%W, HO⟩⟩ Hk
  iapply (Rounds.wp_wait_rest_token 𝒱₀ ER (Rd m) (c : Thread nD τ) none (κ := K (c, some (.inl k))) (k' := amt k)
      (fun Kt => (wpE_waitDma2_eq 𝒱₀ (c : Thread nD τ) none Set.univ Kt).trans (by rw [hn])) (Set.mem_univ _) () (O := owed c []) (W := W) (R := 0) (m := 0) (T := ∅)
      (by rw [Nat.zero_add, expect_send])) $$ [Hc HO Hat]
  · isplitr; · iapply (inv_at m K (c, some (.inl k))); iexact HR
    isplitl [Hc]; · iexact Hc
    isplitl [HO]; · iexact HO
    isplitr; · rw [show owed c [] = 0 from rfl, MayWait_zero]; iempintro
    iexact Hat
  iintro ⟨HO, Hat, -, Hpay⟩
  ihave Hp := (Entails.of_eq (rest_send m k c)) $$ Hpay
  imod (Rounds.cell_close ER (Rd m) (Set.mem_univ (K (c, some (.inl k)))) (fun h => h) (R := 0 + 1) (duties_later m (sendCell k c))) $$ [Hat] with Hz
  · isplitr; · iapply (inv_at m K (c, some (.inl k))); iexact HR
    iexact Hat
  iapply Hk
  isplitl [Hp]; · iexact Hp
  isplitl [Hz]; · iexact Hz
  iexists _; iexact HO

/-- The wait that lands a copy within the device. -/
theorem wp_landL {Q : α → sProp 𝕄} {cont : PUnit → Prog (TpuEff nD τ sig (Elt F) Λ₀ .tc) α} {n : ℕ} {D : sProp 𝕄} (i : Fin 20)
    (hsem : sem = sL i) (hn : dstw.view.dmaCredit = n) (hks : ∀ k' ∈ ks, 0 < lvR k') :
    iprop(levAts L lv ∗ Fly c (.dma (sL i)) n D ∗ Owes c ks)
      ⊢ (iprop((iprop(D ∗ Zl c i ∗ Owes c ks) -∗ WP c (cont ⟨⟩) Q)
          -∗ WP c (.op (.waitDma2 sem srcw dstw hsrc hdst) cont) Q) : sProp 𝕄) := by
  subst hsem
  unfold Owes Zl
  iintro ⟨#HL, HF, HO⟩ Hk
  iapply (wp_land (O := owed c ks) hn) $$ [HF HO]
  · isplitl [HF]; · iexact HF
    isplitl [HO]; · iexact HO
    iapply (mayWait c (.dma (sL i)) ks (fun k' hk' => by
      rw [show lv ((c : Thread nD τ), SemLoc.dma (sL i)) () = 0 from by show lvOf (kindOf i.val) = 0; rw [kindOf_l]; rfl]; exact hks k' hk')); iexact HL
  iexact Hk

end Send

/-! ## The barrier -/

section Bar
variable {c : Dev nD} {α : Type}

/-- The neighbour a duty of a barrier is of. -/
def nb (a : Fin 3) (c : Dev nD) : Dev nD := match a with
  | 0 => py c
  | 1 => px c
  | 2 => pz c

/-- Signalling a neighbour's barrier. -/
theorem wp_sig {Q : α → sProp 𝕄} {cont : PUnit → Prog (TpuEff nD τ sig (Elt F) Λ₀ .tc) α} {n : Dev nD} (a : Fin 3) (hn : n = nb a c)
    {O : CellTallies nD τ sig Unit} :
    iprop(records m K ∗ dutyTok ER (barCell (nb a c)) 0 a ∗ barPay (nb a c) a ∗ ∃ W, owes (c : Thread nD τ) (O + tallyAt (barCell (nb a c)) () 1) W)
      ⊢ (iprop((iprop(∃ W, owes (c : Thread nD τ) O W) -∗ WP c (cont ⟨⟩) Q)
        -∗ WP c (.op (.semSignal (Dev.tc n : Thread nD τ) barS 1) cont) Q) : sProp 𝕄) := by
  subst hn
  iintro ⟨#HR, Ht, Hp, ⟨%W, HO⟩⟩ Hk
  iapply (Rounds.wp_signal 𝒱₀ ER (Rd m) (c : Thread nD τ) none (dst := (nb a c : Thread nD τ)) (κ := K (nb a c, none)) (r := 0) (d := a)
      (by rw [duties_bar]; exact Finset.mem_univ _) (amount_bar m (nb a c) a) () O rfl) $$ [HO Ht Hp]
  · isplitr; · iapply (inv_at m K (nb a c, none)); iexact HR
    isplitl [HO]; · iexact HO
    isplitl [Ht]; · iexact Ht
    isplitl [Hp]; · rw [payload_bar]; iexact Hp
    iapply (reached_at m K (nb a c, none)); iexact HR
  iintro HO
  iapply Hk
  iexists W; iexact HO

/-- The wait on the own barrier: the columns this device will write on its neighbours. -/
theorem wp_bar {Q : α → sProp 𝕄} {cont : PUnit → Prog (TpuEff nD τ sig (Elt F) Λ₀ .tc) α} :
    iprop(records m K ∗ levAts L lv ∗ cred (tallyAt (barCell c) () 3) ∗ atPos ER (barCell c) 0 ∅ 0 ∗ Owes c allK)
      ⊢ (iprop((iprop((barPay c 0 ∗ barPay c 1 ∗ barPay c 2) ∗ Zb c ∗ Owes c allK) -∗ WP c (cont ⟨⟩) Q)
        -∗ WP c (.op (.semWait barS 3) cont) Q) : sProp 𝕄) := by
  unfold Owes Zb
  iintro ⟨#HR, #HL, Hc, Hat, ⟨%W, HO⟩⟩ Hk
  iapply (Rounds.wp_wait_rest_token 𝒱₀ ER (Rd m) (c : Thread nD τ) none (κ := K (c, none))
      (wpE_semWait_eq 𝒱₀ (c : Thread nD τ) none Set.univ) (Set.mem_univ _) () (O := owed c allK) (W := W) (R := 0) (m := 0) (T := ∅)
      (by rw [expect_bar])) $$ [Hc HO Hat]
  · isplitr; · iapply (inv_at m K (c, none)); iexact HR
    isplitl [Hc]; · iexact Hc
    isplitl [HO]; · iexact HO
    isplitr; · iapply (mayWait c (.reg barS) allK (by show ∀ k ∈ allK, 1 < lvR k; decide)); iexact HL
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (inv_at m K (c, none)); iexact HR
    iexact Hat
  iapply Hk
  isplitl [Hp]; · iexact Hp
  isplitl [Hz]; · iexact Hz
  iexists _; iexact HO

end Bar

end Cert.KernelIdeal.K

end
-- ==== Proof.Fetch.lean ====
/-
The two staging slots of the weights, and the copy of the activations: a copy of weight columns into a slot, the load out of it.
-/
module

public import proofs.«01_k».proof.Proof.Remote
public import Idealize.ShloMosaic.Lib.ValueLayout

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-- The elements of slot `s`. -/
def slotSet (s : ℕ) : Finset (Shape.Idx ⟨3, ![2, 512, 1024]⟩) := Finset.univ.filter fun i => (i 0).val = s

theorem slot_sub {s n : ℕ} {inb : ∀ a : Fin 3, (![s, 0, 0] : Fin 3 → ℕ) a + (![1, 512, n] : Fin 3 → ℕ) a ≤ (![2, 512, 1024] : Fin 3 → ℕ) a} :
    (Rect.unit (s := ⟨3, ![2, 512, 1024]⟩) ![s, 0, 0] ![1, 512, n] inb).set ⊆ slotSet s := by
  intro i hi
  rw [Rect.mem_set_unit] at hi
  have h := hi 0
  have h1 : s ≤ (i 0).val := h.1
  have h2 : (i 0).val < s + 1 := h.2
  unfold slotSet
  rw [Finset.mem_filter]
  exact ⟨Finset.mem_univ _, by omega⟩

theorem slot_view_sub {s n : ℕ} {inb : ∀ a : Fin 3, (![s, 0, 0] : Fin 3 → ℕ) a + (![1, 512, n] : Fin 3 → ℕ) a ≤ (![2, 512, 1024] : Fin 3 → ℕ) a}
    {s' : Shape} (h : s'.numel = (⟨3, ![1, 512, n]⟩ : Shape).numel) :
    (((wM : Memref sig .tc .vmem S2x512x1024 .f32).view.slice (Rect.unit (s := S2x512x1024) ![s, 0, 0] ![1, 512, n] inb)).reshape s' h).set
      ⊆ (wM : Memref sig .tc .vmem S2x512x1024 .f32).view.setOn (slotSet s) := by
  have e : ((wM : Memref sig .tc .vmem S2x512x1024 .f32).view.slice (Rect.unit (s := S2x512x1024) ![s, 0, 0] ![1, 512, n] inb)).set
      ⊆ (wM : Memref sig .tc .vmem S2x512x1024 .f32).view.setOn (slotSet s) := by
    rw [View.set_slice]; exact Finset.map_subset_map.mpr slot_sub
  exact (View.set_reshape (v := (wM : Memref sig .tc .vmem S2x512x1024 .f32).view.slice (Rect.unit (s := S2x512x1024) ![s, 0, 0] ![1, 512, n] inb)) h).subset.trans e

/-- What a write through the flattened slot leaves to read in the slot. -/
theorem slot_read {s n : ℕ} {inb inb' : ∀ a : Fin 3, (![s, 0, 0] : Fin 3 → ℕ) a + (![1, 512, n] : Fin 3 → ℕ) a ≤ (![2, 512, 1024] : Fin 3 → ℕ) a}
    (h : (⟨2, ![512, n]⟩ : Shape).numel = (⟨3, ![1, 512, n]⟩ : Shape).numel)
    (f : ((wM : Memref sig .tc .vmem S2x512x1024 .f32).view.ty).Contents (Elt F)) (w : Shape.Idx ⟨2, ![512, n]⟩ → Elt F .f32) (x : Shape.Idx ⟨3, ![1, 512, n]⟩) :
    ((wM : Memref sig .tc .vmem S2x512x1024 .f32).view.slice (Rect.unit (s := S2x512x1024) ![s, 0, 0] ![1, 512, n] inb')).read (Elt F)
      ((((wM : Memref sig .tc .vmem S2x512x1024 .f32).view.slice (Rect.unit (s := S2x512x1024) ![s, 0, 0] ![1, 512, n] inb)).reshape ⟨2, ![512, n]⟩ h).write (Elt F) f w Finset.univ) x
      = w (ix2 (n0 := 512) (n1 := n) (x 1) (x 2)) := by
  have hx : Shape.reshapeEquiv h (ix2 (n0 := 512) (n1 := n) (x 1) (x 2)) = x := by
    have hj : (ix2 (n0 := 512) (n1 := n) (x 1) (x 2) : Shape.Idx ⟨2, ![512, n]⟩) = ValueIdx.ix2 (x 1) (x 2) := funext fun a => by
      match a with
      | ⟨0, _⟩ => rfl
      | ⟨1, _⟩ => rfl
    rw [hj]
    refine (ValueIdx.reshapeEquiv_ix2_1ab h (x 1) (x 2)).trans ?_
    funext a
    match a with
    | ⟨0, _⟩ => exact (Fin.eq_zero (x 0)).symm
    | ⟨1, _⟩ => rfl
    | ⟨2, _⟩ => rfl
  have key := congrFun (View.read_write_univ (v := ((wM : Memref sig .tc .vmem S2x512x1024 .f32).view.slice (Rect.unit (s := S2x512x1024) ![s, 0, 0] ![1, 512, n] inb)).reshape ⟨2, ![512, n]⟩ h) (Val := Elt F) f w)
    (ix2 (n0 := 512) (n1 := n) (x 1) (x 2))
  refine Eq.trans ?_ key
  conv_lhs => rw [← hx]
  rfl

section Slots
variable {c : Dev nD} {s n : ℕ}

/-- Slot `s`, holding anything. -/
def slotAny (c : Dev nD) (s : ℕ) : sProp 𝕄 :=
  iprop(∃ f : Buf (Elt F) ((wM : Memref sig .tc .vmem S2x512x1024 .f32).view.loc (c : Thread nD τ)),
    ((wM : Memref sig .tc .vmem S2x512x1024 .f32).view.loc (c : Thread nD τ) ↦[wM.view.setOn (slotSet s)]{fullShare} f))
/-- Slot `s`, its first `n` columns reading as `g`. -/
def slotHas (c : Dev nD) (s n : ℕ) (g : Shape.Idx ⟨3, ![1, 512, n]⟩ → Elt F .f32) : sProp 𝕄 :=
  iprop(∃ f : Buf (Elt F) ((wM : Memref sig .tc .vmem S2x512x1024 .f32).view.loc (c : Thread nD τ)),
    ((wM : Memref sig .tc .vmem S2x512x1024 .f32).view.loc (c : Thread nD τ) ↦[wM.view.setOn (slotSet s)]{fullShare} f)
      ∗ ⌜∀ inb, ((wM : Memref sig .tc .vmem S2x512x1024 .f32).view.slice (Rect.unit (s := S2x512x1024) ![s, 0, 0] ![1, 512, n] inb)).read (Elt F) f = g⌝)

omit [FloatOps F] in
theorem slotHas_any {g : Shape.Idx ⟨3, ![1, 512, n]⟩ → Elt F .f32} : (slotHas c s n g : sProp 𝕄) ⊢ slotAny c s := by
  unfold slotHas slotAny
  iintro ⟨%f, H, -⟩
  iexists f; iexact H

variable (m : (ℓ : Loc nD τ sig) → Buf (Elt F) ℓ) {α : Type}

/-- A copy of weight columns into a slot. -/
theorem wp_fetch {Q : α → sProp 𝕄} {k : PUnit → Prog (TpuEff nD τ sig (Elt F) Λ₀ .tc) α} {q : PosShare TreeShare} {off : Fin 2 → ℕ}
    {inb : ∀ a : Fin 2, off a + (![512, n] : Fin 2 → ℕ) a ≤ (![512, 4096] : Fin 2 → ℕ) a}
    {inb' : ∀ a : Fin 3, (![s, 0, 0] : Fin 3 → ℕ) a + (![1, 512, n] : Fin 3 → ℕ) a ≤ (![2, 512, 1024] : Fin 3 → ℕ) a} {hs hs' hq}
    {sm : DmaSem sig} {hsrc hdst hsem} (i : Fin 20) (l nn : ℕ) (hsm : sm = sL i) (ho : off = ![0, l])
    (hn : ((wM.slice (Rect.unit (s := S2x512x1024) ![s, 0, 0] ![1, 512, n] inb') hs').squeeze ⟨2, ![512, n]⟩ hq).view.dmaCredit = nn) (hn0 : 0 < nn) :
    iprop(held wH c l n q (Wt m c) ∗ slotAny c s ∗ Zl c i)
      ⊢ (iprop((Fly c (.dma (sL i)) nn iprop(slotHas c s n (wblk m c l n) ∗ held wH c l n q (Wt m c)) -∗ WP c (k ⟨⟩) Q)
      -∗ WP c (.op (.enqueueDma ((wH : Memref sig .tc .hbm S512x4096 .f32).slice (Rect.unit (s := S512x4096) off ![512, n] inb) hs)
          (.here ((wM.slice (Rect.unit (s := S2x512x1024) ![s, 0, 0] ![1, 512, n] inb') hs').squeeze ⟨2, ![512, n]⟩ hq)) (.dma sm) hsrc hdst hsem) k) Q) : sProp 𝕄) := by
  subst hsm
  unfold held heldOn slotAny slotHas Zl
  iintro ⟨⟨%f, Hf, %hf⟩, ⟨%f', Hf'⟩, Hv⟩ Hk
  iapply (Transfers.wp_dmaLocal EC 𝒱₀ (c : Thread nD τ) none
    (src := (wH : Memref sig .tc .hbm S512x4096 .f32).slice (Rect.unit (s := S512x4096) off ![512, n] inb) hs)
    (dst := (wM.slice (Rect.unit (s := S2x512x1024) ![s, 0, 0] ![1, 512, n] inb') hs').squeeze ⟨2, ![512, n]⟩ hq)
    (via := .same) (sm := .dma (sL i)) (k := k) (q := q) (fs := f) (fd := f') (Sd := wM.view.setOn (slotSet s)) () nn hn hn0
    (slot_view_sub hq.numel_eq)) $$ [Hf Hf' Hv]
  · isplitl [Hf]
    · iapply (Entails.of_eq (congrArg (fun J => ((wH : Memref sig .tc .hbm S512x4096 .f32).view.loc (c : Thread nD τ) ↦[J]{q} f : sProp 𝕄))
        (slice_set (m := wH) (inb := inb) ho).symm)) $$ Hf
    isplitl [Hf']; · iexact Hf'
    iexact Hv
  iintro Hfl
  iapply Hk
  iapply (Transfers.Flight_mono EC ?_) $$ Hfl
  iintro ⟨Hd, Hs⟩
  isplitl [Hd]
  · iexists _
    isplitl [Hd]; · iexact Hd
    ipureintro
    intro inb''
    funext x
    refine (slot_read hq.numel_eq _ _ x).trans ?_
    rw [show ((wH : Memref sig .tc .hbm S512x4096 .f32).slice (Rect.unit (s := S512x4096) off ![512, n] inb) hs).view.read (Elt F) f = colBlock (Wt m c) l n from
      readAt_cols (m := wH) ho (Finset.Subset.refl _) hf]
    rfl
  · iexists f
    isplitl [Hs]
    · iapply (Entails.of_eq (congrArg (fun J => ((wH : Memref sig .tc .hbm S512x4096 .f32).view.loc (c : Thread nD τ) ↦[J]{q} f : sProp 𝕄))
        (slice_set (m := wH) (inb := inb) ho))) $$ Hs
    ipureintro; exact hf

/-- The load out of a slot. -/
theorem wp_load_slot {Q : α → sProp 𝕄} {inb : ∀ a : Fin 3, (![s, 0, 0] : Fin 3 → ℕ) a + (![1, 512, n] : Fin 3 → ℕ) a ≤ (![2, 512, 1024] : Fin 3 → ℕ) a}
    {hl : (wM : Memref sig .tc .vmem S2x512x1024 .f32).view.LoadsAt (Rect.unit (s := S2x512x1024) ![s, 0, 0] ![1, 512, n] inb).toLoadRect}
    {k : (Shape.Idx ⟨3, ![1, 512, n]⟩ → Elt F .f32) → Prog (TpuEff nD τ sig (Elt F) Λ₀ .tc) α} {g : Shape.Idx ⟨3, ![1, 512, n]⟩ → Elt F .f32} :
    (slotHas c s n g : sProp 𝕄) ⊢ iprop((slotHas c s n g -∗ WP c (k g) Q)
      -∗ WP c (.op (.load (wM : Memref sig .tc .vmem S2x512x1024 .f32) (Rect.unit (s := S2x512x1024) ![s, 0, 0] ![1, 512, n] inb).toLoadRect hl) k) Q) := by
  unfold slotHas
  iintro ⟨%f, Hf, %hf⟩ Hk
  iapply (wp_load_rect 𝒱₀ (c : Thread nD τ) none Set.univ (m := wM) (r := Rect.unit (s := S2x512x1024) ![s, 0, 0] ![1, 512, n] inb) (k := k)
    (S := wM.view.setOn (slotSet s)) (by rw [View.set_slice]; exact Finset.map_subset_map.mpr slot_sub)) $$ Hf
  iintro Hf
  rw [hf inb]
  iapply Hk
  iexists f
  isplitl [Hf]; · iexact Hf
  ipureintro; exact hf

/-- The copy of the activations. -/
theorem wp_copy_x {Q : α → sProp 𝕄} {k : PUnit → Prog (TpuEff nD τ sig (Elt F) Λ₀ .tc) α} {q : PosShare TreeShare} {g}
    {sm : DmaSem sig} {hsrc hdst hsem} (nn : ℕ) (hsm : sm = sL 0)
    (hn : (xM : Memref sig .tc .vmem S256x512 .f32).view.dmaCredit = nn) (hn0 : 0 < nn) :
    iprop(held xH c 0 512 q (X m c) ∗ held xM c 0 512 fullShare g ∗ Zl c 0)
      ⊢ (iprop((Fly c (.dma (sL 0)) nn iprop(held xM c 0 512 fullShare (X m c) ∗ held xH c 0 512 q (X m c)) -∗ WP c (k ⟨⟩) Q)
      -∗ WP c (.op (.enqueueDma (xH : Memref sig .tc .hbm S256x512 .f32) (.here xM) (.dma sm) hsrc hdst hsem) k) Q) : sProp 𝕄) := by
  subst hsm
  unfold held heldOn Zl
  rw [cols_univ]
  iintro ⟨⟨%f, Hf, %hf⟩, ⟨%f', Hf', -⟩, Hv⟩ Hk
  iapply (Transfers.wp_dmaLocal EC 𝒱₀ (c : Thread nD τ) none
    (src := (xH : Memref sig .tc .hbm S256x512 .f32)) (dst := (xM : Memref sig .tc .vmem S256x512 .f32))
    (via := .same) (sm := .dma (sL 0)) (k := k) (q := q) (fs := f) (fd := f') (Sd := xM.view.setOn Finset.univ) () nn hn hn0
    (Finset.Subset.refl _)) $$ [Hf Hf' Hv]
  · isplitl [Hf]; · iexact Hf
    isplitl [Hf']; · iexact Hf'
    iexact Hv
  iintro Hfl
  iapply Hk
  iapply (Transfers.Flight_mono EC ?_) $$ Hfl
  iintro ⟨Hd, Hs⟩
  isplitl [Hd]
  · iexists _
    isplitl [Hd]; · iexact Hd
    ipureintro
    intro i hi
    rw [View.read_write_univ]
    exact hf i hi
  · iexists f
    isplitl [Hs]; · iexact Hs
    ipureintro; exact hf

end Slots

end Cert.KernelIdeal.K

end
-- ==== Proof.Parts1.lean ====
/-
The first pieces of the body: the weights come in chunk by chunk, each chunk's exponentials are computed, stored, and sent to the
y neighbour.
-/
module

public import proofs.«01_k».proof.Proof.Fetch

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## Feeding the rules one hypothesis at a time -/

omit [FloatOps F] in
theorem cur2 {A B G : sProp 𝕄} (h : iprop(A ∗ B) ⊢ G) : A ⊢ iprop(B -∗ G) := BI.wand_intro h
omit [FloatOps F] in
theorem cur3 {A B C G : sProp 𝕄} (h : iprop(A ∗ B ∗ C) ⊢ G) : A ⊢ iprop(B -∗ C -∗ G) := by
  iintro HA HB HC
  iapply h
  isplitl [HA]; · iexact HA
  isplitl [HB]; · iexact HB
  iexact HC
omit [FloatOps F] in
theorem cur4 {A B C D G : sProp 𝕄} (h : iprop(A ∗ B ∗ C ∗ D) ⊢ G) : A ⊢ iprop(B -∗ C -∗ D -∗ G) := by
  iintro HA HB HC HD
  iapply h
  isplitl [HA]; · iexact HA
  isplitl [HB]; · iexact HB
  isplitl [HC]; · iexact HC
  iexact HD
omit [FloatOps F] in
theorem cur5 {A B C D E G : sProp 𝕄} (h : iprop(A ∗ B ∗ C ∗ D ∗ E) ⊢ G) : A ⊢ iprop(B -∗ C -∗ D -∗ E -∗ G) := by
  iintro HA HB HC HD HE
  iapply h
  isplitl [HA]; · iexact HA
  isplitl [HB]; · iexact HB
  isplitl [HC]; · iexact HC
  isplitl [HD]; · iexact HD
  iexact HE

/-- The end of a piece. -/
theorem wp_done {α : Type} {c : Dev nD} {a : α} {Q : α → sProp 𝕄} : (Q a : sProp 𝕄) ⊢ WP c (Prog.ret a) Q := by
  unfold WP
  rw [wp_ret]
  iintro H
  imodintro
  iexact H

theorem lvR_pos {ks : List (Fin 17)} : ∀ k ∈ ks, 0 < lvR k := fun k _ => (show ∀ k : Fin 17, 0 < lvR k by decide) k

/-! ## Names -/

/-- What a copy of a chunk, and of a quarter, of the weights credits. -/
def NWc : ℕ := ((wM.slice (Rect.unit (s := S2x512x1024) ![0, 0, 0] S1x512x256.size inb_S2x512x1024_S1x512x256_0_0_0) (fun _ => rfl)).squeeze S512x256 squeezes_S1x512x256_S512x256).view.dmaCredit
def NWq : ℕ := ((wM.slice (Rect.unit (s := S2x512x1024) ![0, 0, 0] S1x512x1024.size inb_S2x512x1024_S1x512x1024_0_0_0) (fun _ => rfl)).squeeze S512x1024 squeezes_S1x512x1024_S512x1024).view.dmaCredit
theorem NWc_pos : 0 < NWc := View.dmaCredit_pos _ (by decide)
theorem NWq_pos : 0 < NWq := View.dmaCredit_pos _ (by decide)
/-- What the copy of the activations credits. -/
def NX : ℕ := (xM : Memref sig .tc .vmem S256x512 .f32).view.dmaCredit
theorem NX_pos : 0 < NX := View.dmaCredit_pos _ (by decide)

section Parts
variable (m : (ℓ : Loc nD τ sig) → Buf (Elt F) ℓ) (K : Dev nD × Cell → ℕ) (c : Dev nD)

/-- Weight columns of the owned quarter's chunk `i`; of the quarter of role `r`. -/
abbrev Wc (i : Fin 4) : sProp 𝕄 := held wH c (ck 0 i c) 256 fullShare (Wt m c)
abbrev Wq (r : Fin 4) : sProp 𝕄 := held wH c (qo r c) 1024 fullShare (Wt m c)
/-- A slot holding them. -/
abbrev HasC (s : ℕ) (i : Fin 4) : sProp 𝕄 := slotHas c s 256 (wblk m c (ck 0 i c) 256)
abbrev HasQ (s : ℕ) (r : Fin 4) : sProp 𝕄 := slotHas c s 1024 (wblk m c (qo r c) 1024)
/-- The copy of them into slot `s` under way on semaphore `j`. -/
abbrev FlyC (s : ℕ) (j : Fin 20) (i : Fin 4) : sProp 𝕄 := Fly c (.dma (sL j)) NWc iprop(HasC m c s i ∗ Wc m c i)
abbrev FlyQ (s : ℕ) (j : Fin 20) (r : Fin 4) : sProp 𝕄 := Fly c (.dma (sL j)) NWq iprop(HasQ m c s r ∗ Wq m c r)
/-- Columns of the send buffer. -/
abbrev sAny (l w : ℕ) : sProp 𝕄 := iprop(∃ g, held sM c l w fullShare g)
abbrev sHas (l w : ℕ) : sProp 𝕄 := held sM c l w fullShare (S m c)

variable {m K c}
variable {h0 : (xH : Memref sig .tc .hbm S256x512 .f32).IsWhole} {h1 : (wH : Memref sig .tc .hbm S512x4096 .f32).IsWhole}
  {h2 : (oH : Memref sig .tc .hbm S256x8192 .bf16).IsWhole} {h3 : (xM : Memref sig .tc .vmem S256x512 .f32).IsWhole}
  {h4 : (wM : Memref sig .tc .vmem S2x512x1024 .f32).IsWhole} {h5 : (sM : Memref sig .tc .vmem S256x4096 .bf16).IsWhole}
  {h6 : (rM : Memref sig .tc .vmem S256x4096 .bf16).IsWhole} {h7 : (aM : Memref sig .tc .vmem S256x128 .bf16).IsWhole}
  {h8 : (bM : Memref sig .tc .vmem S256x128 .bf16).IsWhole} {u1 u2 u3 u4 u5 u6 u7 u8 u9 : BitVec 32} {ks : List (Fin 17)}

/-! ## The sends of what this device computed -/

theorem wp_send_own {α : Type} {Q : α → sProp 𝕄} {cont : PUnit → Prog (TpuEff nD τ sig (Elt F) Λ₀ .tc) α} {n : Dev nD} (k : Fin 17) (hk : k.val < 6) (hn : n = peer k c)
    {off off' : Fin 2 → ℕ}
    {inb : ∀ a : Fin 2, off a + (![256, 256] : Fin 2 → ℕ) a ≤ (![256, 4096] : Fin 2 → ℕ) a}
    {inb' : ∀ a : Fin 2, off' a + (![256, 256] : Fin 2 → ℕ) a ≤ (![256, 4096] : Fin 2 → ℕ) a} {hs hs'} {sd sa : DmaSem sig} {hsc hsrc hdst hsem}
    {l : ℕ} (ho : off = ![0, l]) (ho' : off' = ![0, l]) (hl : l = lo k c) (hsd : sd = sS k) (hsa : sa = sR k) :
    records m K ⊢ iprop(sHas m c l 256 -∗ dst k c -∗ Kit k c -∗ Owes c (k :: ks) -∗ (iprop(Sent k c ∗ Owes c ks) -∗ WP c (cont ⟨⟩) Q)
        -∗ WP c (.op (.enqueueDma (sM.slice (Rect.unit (s := S256x4096) off ![256, 256] inb) hs)
          (.remote (Dev.tc n : Thread nD τ) (rM.slice (Rect.unit (s := S256x4096) off' ![256, 256] inb') hs') (.dma sd) hsc) (.dma sa) hsrc hdst hsem) cont) Q) := by
  subst hl
  exact cur5 (wp_send_cols m K hn (by omega) ho ho' hsd hsa (Entails.of_eq (if_pos hk).symm) (fun i hi => sent_own m k c hk hi))

/-! ## The waits for weights -/

theorem landC {α : Type} {Q : α → sProp 𝕄} {cont : PUnit → Prog (TpuEff nD τ sig (Elt F) Λ₀ .tc) α} {D : sProp 𝕄} (i : Fin 20) {s : ℕ}
    {inb' : ∀ a : Fin 3, (![s, 0, 0] : Fin 3 → ℕ) a + (![1, 512, 256] : Fin 3 → ℕ) a ≤ (![2, 512, 1024] : Fin 3 → ℕ) a} {hs' hq}
    {sm : DmaSem sig} {sp' : Space} {s' : Shape} {e' : EltTy} {srcw : Memref sig .tc sp' s' e'} {hsrc hdst} (hsm : sm = sL i) :
    levAts L lv ⊢ iprop(Fly c (.dma (sL i)) NWc D -∗ Owes c ks -∗ (iprop(D ∗ Zl c i ∗ Owes c ks) -∗ WP c (cont ⟨⟩) Q)
      -∗ WP c (.op (.waitDma2 sm srcw ((wM.slice (Rect.unit (s := S2x512x1024) ![s, 0, 0] ![1, 512, 256] inb') hs').squeeze ⟨2, ![512, 256]⟩ hq) hsrc hdst) cont) Q) :=
  cur3 (wp_landL i hsm rfl lvR_pos)
theorem landQ {α : Type} {Q : α → sProp 𝕄} {cont : PUnit → Prog (TpuEff nD τ sig (Elt F) Λ₀ .tc) α} {D : sProp 𝕄} (i : Fin 20) {s : ℕ}
    {inb' : ∀ a : Fin 3, (![s, 0, 0] : Fin 3 → ℕ) a + (![1, 512, 1024] : Fin 3 → ℕ) a ≤ (![2, 512, 1024] : Fin 3 → ℕ) a} {hs' hq}
    {sm : DmaSem sig} {sp' : Space} {s' : Shape} {e' : EltTy} {srcw : Memref sig .tc sp' s' e'} {hsrc hdst} (hsm : sm = sL i) :
    levAts L lv ⊢ iprop(Fly c (.dma (sL i)) NWq D -∗ Owes c ks -∗ (iprop(D ∗ Zl c i ∗ Owes c ks) -∗ WP c (cont ⟨⟩) Q)
      -∗ WP c (.op (.waitDma2 sm srcw ((wM.slice (Rect.unit (s := S2x512x1024) ![s, 0, 0] ![1, 512, 1024] inb') hs').squeeze ⟨2, ![512, 1024]⟩ hq) hsrc hdst) cont) Q) :=
  cur3 (wp_landL i hsm rfl lvR_pos)

/-! ## The pieces -/

/-- The first chunk: its exponentials stored and sent, the second chunk's weights on their way. -/
theorem part3 {Q : _ → sProp 𝕄} :
    records m K ⊢ iprop(levAts L lv -∗ FlyC m c 0 1 0 -∗ Wc m c 1 -∗ slotAny c 1 -∗ Zl c 2 -∗ sAny c (ck 0 0 c) 256 -∗ dst 0 c -∗ Kit 0 c -∗ Owes c (0 :: ks)
      -∗ (Wc m c 0 -∗ slotAny c 0 -∗ Zl c 1 -∗ FlyC m c 1 2 1 -∗ Sent 0 c -∗ Owes c ks -∗ Q (k0_pay5 (xb m c) (wblk m c (ck 0 0 c) 256)))
      -∗ WP c (k0_part3 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 (xb m c)) Q) := by
  rw [k0_part3_eq_skeleton]
  unfold k0_part3_skel
  simp only [Prog.lift, Prog.bind_op, Prog.bind_ret, Prog.pure_eq_ret]
  iintro #HR #HL Hf HW Hs Hz ⟨%g, HS⟩ Hd Hkit HO Hk
  iapply (landC 1 rfl) $$ HL Hf HO
  iintro ⟨⟨Hs0, HW0⟩, Hz1, HO⟩
  iapply (cur3 (wp_fetch (s := 1) m 2 (ck 0 1 c) NWc rfl (off1_at c 1) rfl NWc_pos)) $$ HW Hs Hz
  iintro Hf
  iapply wp_load_slot $$ Hs0
  iintro Hs0
  iapply (wp_load_held (ck 0 0 c) (off2_at c 0) (Finset.Subset.refl _)) $$ HS
  iintro HS
  iapply (wp_store_held (ck 0 0 c) (off2_at c 0) (S_chunk m c 0)) $$ HS
  iintro HS
  iapply (wp_send_own 0 (by decide) (dev_py c _ (k0_dev4_eq c)) (off3_at c 0) (off3_at c 0) rfl rfl rfl) $$ HR HS Hd Hkit HO
  iintro ⟨HS, HO⟩
  iapply wp_done
  ihave Hs0 := slotHas_any $$ Hs0
  iapply Hk $$ HW0 Hs0 Hz1 Hf HS HO

/-- The second chunk's exponentials stored. -/
theorem part4 {Q : _ → sProp 𝕄} {v : FVec F S256x1 .f32} {w : FVec F S256 .f32} :
    levAts L lv ⊢ iprop(FlyC m c 1 2 1 -∗ Wc m c 2 -∗ slotAny c 0 -∗ Zl c 1 -∗ sAny c (ck 0 1 c) 256 -∗ Owes c ks
      -∗ (Wc m c 1 -∗ slotAny c 1 -∗ Zl c 2 -∗ FlyC m c 0 1 2 -∗ sHas m c (ck 0 1 c) 256 -∗ Owes c ks
        -∗ Q ⟨k0_pay6 v w, k0_pay7 (xb m c) (wblk m c (ck 0 1 c) 256)⟩)
      -∗ WP c (k0_part4 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 (xb m c) v w) Q) := by
  rw [k0_part4_eq_skeleton]
  unfold k0_part4_skel
  simp only [Prog.lift, Prog.bind_op, Prog.bind_ret, Prog.pure_eq_ret]
  iintro #HL Hf HW Hs Hz ⟨%g, HS⟩ HO Hk
  iapply (landC 2 rfl) $$ HL Hf HO
  iintro ⟨⟨Hs1, HW1⟩, Hz2, HO⟩
  iapply (cur3 (wp_fetch (s := 0) m 1 (ck 0 2 c) NWc rfl (off1_at c 2) rfl NWc_pos)) $$ HW Hs Hz
  iintro Hf
  iapply wp_load_slot $$ Hs1
  iintro Hs1
  iapply (wp_load_held (ck 0 1 c) (off2_at c 1) (Finset.Subset.refl _)) $$ HS
  iintro HS
  iapply (wp_store_held (ck 0 1 c) (off2_at c 1) (S_chunk m c 1)) $$ HS
  iintro HS
  iapply wp_done
  ihave Hs1 := slotHas_any $$ Hs1
  iapply Hk $$ HW1 Hs1 Hz2 Hf HS HO

/-- The second chunk sent, the third one's exponentials stored. -/
theorem part5 {Q : _ → sProp 𝕄} {v : FVec F S256x1 .f32} {w : FVec F S256x256 .f32} :
    records m K ⊢ iprop(levAts L lv -∗ sHas m c (ck 0 1 c) 256 -∗ dst 1 c -∗ Kit 1 c -∗ Owes c (1 :: ks)
      -∗ FlyC m c 0 1 2 -∗ Wc m c 3 -∗ slotAny c 1 -∗ Zl c 2 -∗ sAny c (ck 0 2 c) 256
      -∗ (Sent 1 c -∗ Wc m c 2 -∗ slotAny c 0 -∗ Zl c 1 -∗ FlyC m c 1 2 3 -∗ sHas m c (ck 0 2 c) 256 -∗ Owes c ks
        -∗ Q ⟨k0_pay9 v w, k0_pay10 (xb m c) (wblk m c (ck 0 2 c) 256)⟩)
      -∗ WP c (k0_part5 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 (xb m c) v w) Q) := by
  rw [k0_part5_eq_skeleton]
  unfold k0_part5_skel
  simp only [Prog.lift, Prog.bind_op, Prog.bind_ret, Prog.pure_eq_ret]
  iintro #HR #HL HS1 Hd Hkit HO Hf HW Hs Hz ⟨%g, HS⟩ Hk
  iapply (wp_send_own 1 (by decide) (dev_py c _ (k0_dev5_eq c)) (off3_at c 1) (off3_at c 1) rfl rfl rfl) $$ HR HS1 Hd Hkit HO
  iintro ⟨HS1, HO⟩
  iapply (landC 1 rfl) $$ HL Hf HO
  iintro ⟨⟨Hs0, HW2⟩, Hz1, HO⟩
  iapply (cur3 (wp_fetch (s := 1) m 2 (ck 0 3 c) NWc rfl (off1_at c 3) rfl NWc_pos)) $$ HW Hs Hz
  iintro Hf
  iapply wp_load_slot $$ Hs0
  iintro Hs0
  iapply (wp_load_held (ck 0 2 c) (off2_at c 2) (Finset.Subset.refl _)) $$ HS
  iintro HS
  iapply (wp_store_held (ck 0 2 c) (off2_at c 2) (S_chunk m c 2)) $$ HS
  iintro HS
  iapply wp_done
  ihave Hs0 := slotHas_any $$ Hs0
  iapply Hk $$ HS1 HW2 Hs0 Hz1 Hf HS HO

/-- The third chunk sent, the fourth one's exponentials stored. -/
theorem part6 {Q : _ → sProp 𝕄} {v : FVec F S256x1 .f32} {w : FVec F S256x256 .f32} :
    records m K ⊢ iprop(levAts L lv -∗ sHas m c (ck 0 2 c) 256 -∗ dst 2 c -∗ Kit 2 c -∗ Owes c (2 :: ks)
      -∗ FlyC m c 1 2 3 -∗ Wq m c 3 -∗ slotAny c 0 -∗ Zl c 1 -∗ sAny c (ck 0 3 c) 256
      -∗ (∀ b b', Sent 2 c -∗ Wc m c 3 -∗ slotAny c 1 -∗ Zl c 2 -∗ FlyQ m c 0 1 3 -∗ sHas m c (ck 0 3 c) 256 -∗ Owes c ks
        -∗ Q ⟨k0_pay12 v w, k0_pay13 (xb m c) (wblk m c (ck 0 3 c) 256), b, b'⟩)
      -∗ WP c (k0_part6 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 (xb m c) v w) Q) := by
  rw [k0_part6_eq_skeleton]
  unfold k0_part6_skel
  simp only [Prog.lift, Prog.bind_op, Prog.bind_ret, Prog.pure_eq_ret]
  iintro #HR #HL HS2 Hd Hkit HO Hf HW Hs Hz ⟨%g, HS⟩ Hk
  iapply (wp_send_own 2 (by decide) (dev_py c _ (k0_dev6_eq c)) (off3_at c 2) (off3_at c 2) rfl rfl rfl) $$ HR HS2 Hd Hkit HO
  iintro ⟨HS2, HO⟩
  iapply (landC 2 rfl) $$ HL Hf HO
  iintro ⟨⟨Hs1, HW3⟩, Hz2, HO⟩
  iapply (cur3 (wp_fetch (s := 0) m 1 (qo 3 c) NWq rfl (off4_at c) rfl NWq_pos)) $$ HW Hs Hz
  iintro Hf
  iapply wp_load_slot $$ Hs1
  iintro Hs1
  iapply (wp_load_held (ck 0 3 c) (off2_at c 3) (Finset.Subset.refl _)) $$ HS
  iintro HS
  iapply (wp_store_held (ck 0 3 c) (off2_at c 3) (S_chunk m c 3)) $$ HS
  iintro HS
  iapply wp_done
  ihave Hs1 := slotHas_any $$ Hs1
  iapply Hk $$ HS2 HW3 Hs1 Hz2 Hf HS HO

/-- The fourth chunk sent, the diagonal quarter's exponentials stored. -/
theorem part7 {Q : _ → sProp 𝕄} {v : FVec F S256x1 .f32} {w : FVec F S256x256 .f32} :
    records m K ⊢ iprop(levAts L lv -∗ sHas m c (ck 0 3 c) 256 -∗ dst 3 c -∗ Kit 3 c -∗ Owes c (3 :: ks)
      -∗ FlyQ m c 0 1 3 -∗ Wq m c 1 -∗ slotAny c 1 -∗ Zl c 2 -∗ sAny c (qo 3 c) 1024
      -∗ (∀ b, Sent 3 c -∗ Wq m c 3 -∗ slotAny c 0 -∗ Zl c 1 -∗ FlyQ m c 1 2 1 -∗ sHas m c (qo 3 c) 1024 -∗ Owes c ks
        -∗ Q ⟨k0_pay17 (xb m c) v w (wblk m c (qo 3 c) 1024), b⟩)
      -∗ WP c (k0_part7 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 (xb m c) v w u3 u4) Q) := by
  rw [k0_part7_eq_skeleton]
  unfold k0_part7_skel
  simp only [Prog.lift, Prog.bind_op, Prog.bind_ret, Prog.pure_eq_ret]
  iintro #HR #HL HS2 Hd Hkit HO Hf HW Hs Hz ⟨%g, HS⟩ Hk
  iapply (wp_send_own 3 (by decide) (dev_py c _ (k0_dev7_eq c)) (off3_at c 3) (off3_at c 3) rfl rfl rfl) $$ HR HS2 Hd Hkit HO
  iintro ⟨HS2, HO⟩
  iapply (landQ 1 rfl) $$ HL Hf HO
  iintro ⟨⟨Hs0, HW3⟩, Hz1, HO⟩
  iapply (cur3 (wp_fetch (s := 1) m 2 (qo 1 c) NWq rfl (off5_at c) rfl NWq_pos)) $$ HW Hs Hz
  iintro Hf
  iapply wp_load_slot $$ Hs0
  iintro Hs0
  iapply (wp_load_held (qo 3 c) (off6_at c) (Finset.Subset.refl _)) $$ HS
  iintro HS
  iapply (wp_store_held (qo 3 c) (off6_at c) (S_quarter m c 3 (by decide))) $$ HS
  iintro HS
  iapply wp_done
  ihave Hs0 := slotHas_any $$ Hs0
  iapply Hk $$ HS2 HW3 Hs0 Hz1 Hf HS HO

/-- The last two chunks of the diagonal quarter sent. -/
theorem part8 {Q : _ → sProp 𝕄} :
    records m K ⊢ iprop(sHas m c (ck 3 2 c) 256 -∗ sHas m c (ck 3 3 c) 256 -∗ dst 4 c -∗ dst 5 c -∗ Kit 4 c -∗ Kit 5 c -∗ Owes c (4 :: 5 :: ks)
      -∗ (Sent 4 c -∗ Sent 5 c -∗ Owes c ks -∗ Q ⟨⟩)
      -∗ WP c (k0_part8 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6) Q) := by
  rw [k0_part8_eq_skeleton]
  unfold k0_part8_skel
  simp only [Prog.lift, Prog.bind_op, Prog.bind_ret, Prog.pure_eq_ret]
  iintro #HR HS HS' Hd Hd' Hkit Hkit' HO Hk
  iapply (wp_send_own 4 (by decide) (dev_py c _ (k0_dev8_eq c)) (off7_at c 2) (off7_at c 2) rfl rfl rfl) $$ HR HS Hd Hkit HO
  iintro ⟨HS, HO⟩
  iapply (wp_send_own 5 (by decide) (dev_py c _ (k0_dev9_eq c)) (off7_at c 3) (off7_at c 3) rfl rfl rfl) $$ HR HS' Hd' Hkit' HO
  iintro ⟨HS', HO⟩
  iapply wp_done
  iapply Hk $$ HS HS' HO

end Parts

end Cert.KernelIdeal.K

end
-- ==== Proof.Parts2.lean ====
/-
The middle pieces of the body: what arrives from the y neighbour is sent on across x and z, the last quarters are computed, and
the row sums go to the y neighbour.
-/
module

public import proofs.«01_k».proof.Proof.Parts1

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

omit [FloatOps F] in
theorem colBlock_full {R N : ℕ} [NeZero N] {α : Type} (g : Shape.Idx ⟨2, ![R, N]⟩ → α) : colBlock g 0 N = g := by
  funext i
  have h : (i 1).val < N := (i 1).isLt
  have e : (Fin.ofNat N (0 + (i 1).val) : Fin N) = i 1 := Fin.ext (by
    show (0 + (i 1).val) % N = _
    rw [Nat.zero_add, Nat.mod_eq_of_lt h])
  show g (ix2 (n0 := R) (n1 := N) (i 0) (Fin.ofNat N (0 + (i 1).val))) = g i
  rw [e]; exact congrArg g (ix2_eta i)

section Parts
variable (m : (ℓ : Loc nD τ sig) → Buf (Elt F) ℓ) (K : Dev nD × Cell → ℕ) (c : Dev nD)

/-- Columns of the receive buffer as they arrived, at share `q`. -/
abbrev rHas (l w : ℕ) (q : PosShare TreeShare) : sProp 𝕄 := held rM c l w q (R m c)

variable {m K c}
variable {h0 : (xH : Memref sig .tc .hbm S256x512 .f32).IsWhole} {h1 : (wH : Memref sig .tc .hbm S512x4096 .f32).IsWhole}
  {h2 : (oH : Memref sig .tc .hbm S256x8192 .bf16).IsWhole} {h3 : (xM : Memref sig .tc .vmem S256x512 .f32).IsWhole}
  {h4 : (wM : Memref sig .tc .vmem S2x512x1024 .f32).IsWhole} {h5 : (sM : Memref sig .tc .vmem S256x4096 .bf16).IsWhole}
  {h6 : (rM : Memref sig .tc .vmem S256x4096 .bf16).IsWhole} {h7 : (aM : Memref sig .tc .vmem S256x128 .bf16).IsWhole}
  {h8 : (bM : Memref sig .tc .vmem S256x128 .bf16).IsWhole} {u1 u2 u3 u4 u5 u6 u7 u8 u9 : BitVec 32} {ks : List (Fin 17)}

/-! ## Arrivals, and the sends of what arrived -/

theorem recvC {α : Type} {Q : α → sProp 𝕄} {cont : PUnit → Prog (TpuEff nD τ sig (Elt F) Λ₀ .tc) α} (k : Fin 17) (hk : k.val < 16) (l : ℕ) (hl : l = ck (rrole k) (chnk k) c)
    {off : Fin 2 → ℕ} {inb : ∀ a : Fin 2, off a + (![256, 256] : Fin 2 → ℕ) a ≤ (![256, 4096] : Fin 2 → ℕ) a} {hs}
    {sm : DmaSem sig} {sp' : Space} {s' : Shape} {e' : EltTy} {srcw : Memref sig .tc sp' s' e'} {hsrc hdst} (hsm : sm = sR k) (hks : ∀ k' ∈ ks, lvR k < lvR k') :
    records m K ⊢ iprop(levAts L lv -∗ Rcv k c -∗ Owes c ks -∗ (iprop(rHas m c l 256 fullShare ∗ Zr k c ∗ Owes c ks) -∗ WP c (cont ⟨⟩) Q)
      -∗ WP c (.op (.waitDma2 sm srcw (rM.slice (Rect.unit (s := S256x4096) off ![256, 256] inb) hs) hsrc hdst) cont) Q) := by
  subst hl
  have h := cur4 (wp_recv (srcw := srcw) (dstw := rM.slice (Rect.unit (s := S256x4096) off ![256, 256] inb) hs) (hsrc := hsrc) (hdst := hdst) (c := c) (Q := Q) (cont := cont) m K hsm
    (show _ = amt k by unfold amt; rw [if_neg (fun h => by rw [h] at hk; exact absurd hk (by decide))]; rfl) hks)
  rw [show recvPay m k c = rHas m c (ck (rrole k) (chnk k) c) 256 fullShare from if_pos hk] at h
  exact h

theorem wp_send_rcv {α : Type} {Q : α → sProp 𝕄} {cont : PUnit → Prog (TpuEff nD τ sig (Elt F) Λ₀ .tc) α} {n : Dev nD} (k : Fin 17) (q : PosShare TreeShare)
    (h6 : 6 ≤ k.val) (hk : k.val < 16) (hq : sendPay m k c = rHas m c (lo k c) 256 q) (hn : n = peer k c)
    {off off' : Fin 2 → ℕ}
    {inb : ∀ a : Fin 2, off a + (![256, 256] : Fin 2 → ℕ) a ≤ (![256, 4096] : Fin 2 → ℕ) a}
    {inb' : ∀ a : Fin 2, off' a + (![256, 256] : Fin 2 → ℕ) a ≤ (![256, 4096] : Fin 2 → ℕ) a} {hs hs'} {sd sa : DmaSem sig} {hsc hsrc hdst hsem}
    {l : ℕ} (ho : off = ![0, l]) (ho' : off' = ![0, l]) (hl : l = lo k c) (hsd : sd = sS k) (hsa : sa = sR k) :
    records m K ⊢ iprop(rHas m c l 256 q -∗ dst k c -∗ Kit k c -∗ Owes c (k :: ks) -∗ (iprop(Sent k c ∗ Owes c ks) -∗ WP c (cont ⟨⟩) Q)
        -∗ WP c (.op (.enqueueDma (rM.slice (Rect.unit (s := S256x4096) off ![256, 256] inb) hs)
          (.remote (Dev.tc n : Thread nD τ) (rM.slice (Rect.unit (s := S256x4096) off' ![256, 256] inb') hs') (.dma sd) hsc) (.dma sa) hsrc hdst hsem) cont) Q) := by
  subst hl
  exact cur5 (wp_send_cols m K hn hk ho ho' hsd hsa (Entails.of_eq hq.symm) (fun i hi => sent_on m k c h6 hk hi))

/-- What is sent on twice is sent at two shares. -/
theorem halve {l : ℕ} : rHas m c l 256 fullShare ⊢ iprop(rHas m c l 256 fullShare.left ∗ rHas m c l 256 fullShare.right) :=
  heldOn_share (PosShare.mem_left_op_right fullShare)

/-! ## The pieces -/

/-- The first received chunk is sent on. -/
theorem part9 {Q : _ → sProp 𝕄} :
    records m K ⊢ iprop(levAts L lv -∗ Rcv 0 c -∗ dst 6 c -∗ dst 12 c -∗ Kit 6 c -∗ Kit 12 c -∗ Owes c [6, 12, 7, 13, 8, 14, 16, 9, 15, 10, 11]
      -∗ (Zr 0 c -∗ Sent 6 c -∗ Sent 12 c -∗ Owes c [7, 13, 8, 14, 16, 9, 15, 10, 11] -∗ Q ⟨⟩)
      -∗ WP c (k0_part9 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6) Q) := by
  rw [k0_part9_eq_skeleton]
  unfold k0_part9_skel
  simp only [Prog.lift, Prog.bind_op, Prog.bind_ret, Prog.pure_eq_ret]
  iintro #HR #HL Hr Hd Hd' Hkit Hkit' HO Hk
  iapply (recvC 0 (by decide) (ck 0 0 c) rfl rfl (by decide)) $$ HR HL Hr HO
  iintro ⟨Hr, Hz, HO⟩
  ihave H := halve $$ Hr
  icases H with ⟨H1, H2⟩
  iapply (wp_send_rcv 6 fullShare.left (by decide) (by decide) rfl (dev_px c _ (k0_dev10_eq c)) (off3_at c 0) (off3_at c 0) rfl rfl rfl) $$ HR H1 Hd Hkit HO
  iintro ⟨H1, HO⟩
  iapply (wp_send_rcv 12 fullShare.right (by decide) (by decide) rfl (dev_pz c _ (k0_dev11_eq c)) (off3_at c 0) (off3_at c 0) rfl rfl rfl) $$ HR H2 Hd' Hkit' HO
  iintro ⟨H2, HO⟩
  iapply wp_done
  iapply Hk $$ Hz H1 H2 HO

/-- The quarter across x computed; the second chunk received. -/
theorem part10 {Q : _ → sProp 𝕄} {v : FVec F S256x1 .f32} :
    records m K ⊢ iprop(levAts L lv -∗ FlyQ m c 1 2 1 -∗ Wq m c 2 -∗ slotAny c 0 -∗ Zl c 1 -∗ sAny c (qo 1 c) 1024 -∗ Rcv 1 c
      -∗ Owes c [7, 13, 8, 14, 16, 9, 15, 10, 11]
      -∗ (∀ b, Wq m c 1 -∗ slotAny c 1 -∗ Zl c 2 -∗ FlyQ m c 0 1 2 -∗ sHas m c (qo 1 c) 1024 -∗ rHas m c (ck 0 1 c) 256 fullShare -∗ Zr 1 c
        -∗ Owes c [7, 13, 8, 14, 16, 9, 15, 10, 11] -∗ Q ⟨k0_pay20 (xb m c) v (wblk m c (qo 1 c) 1024), b⟩)
      -∗ WP c (k0_part10 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 (xb m c) v) Q) := by
  rw [k0_part10_eq_skeleton]
  unfold k0_part10_skel
  simp only [Prog.lift, Prog.bind_op, Prog.bind_ret, Prog.pure_eq_ret]
  iintro #HR #HL Hf HW Hs Hz ⟨%g, HS⟩ Hr HO Hk
  iapply (landQ 2 rfl) $$ HL Hf HO
  iintro ⟨⟨Hs1, HW1⟩, Hz2, HO⟩
  iapply (cur3 (wp_fetch (s := 0) m 1 (qo 2 c) NWq rfl (off8_at c) rfl NWq_pos)) $$ HW Hs Hz
  iintro Hf
  iapply wp_load_slot $$ Hs1
  iintro Hs1
  iapply (wp_load_held (qo 1 c) (off9_at c) (Finset.Subset.refl _)) $$ HS
  iintro HS
  iapply (wp_store_held (qo 1 c) (off9_at c) (S_quarter m c 1 (by decide))) $$ HS
  iintro HS
  iapply (recvC 1 (by decide) (ck 0 1 c) rfl rfl (by decide)) $$ HR HL Hr HO
  iintro ⟨Hr, Hzr, HO⟩
  iapply wp_done
  ihave Hs1 := slotHas_any $$ Hs1
  iapply Hk $$ %_ HW1 Hs1 Hz2 Hf HS Hr Hzr HO

/-- The second received chunk is sent on; the last weights are read. -/
theorem part11 {Q : _ → sProp 𝕄} :
    records m K ⊢ iprop(levAts L lv -∗ rHas m c (ck 0 1 c) 256 fullShare -∗ dst 7 c -∗ dst 13 c -∗ Kit 7 c -∗ Kit 13 c
      -∗ Owes c [7, 13, 8, 14, 16, 9, 15, 10, 11] -∗ FlyQ m c 0 1 2
      -∗ (Sent 7 c -∗ Sent 13 c -∗ Wq m c 2 -∗ slotAny c 0 -∗ Zl c 1 -∗ Owes c [8, 14, 16, 9, 15, 10, 11]
        -∗ Q (k0_pay21 (xb m c) (wblk m c (qo 2 c) 1024)))
      -∗ WP c (k0_part11 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6 (xb m c) u7) Q) := by
  rw [k0_part11_eq_skeleton]
  unfold k0_part11_skel
  simp only [Prog.lift, Prog.bind_op, Prog.bind_ret, Prog.pure_eq_ret]
  iintro #HR #HL Hr Hd Hd' Hkit Hkit' HO Hf Hk
  ihave H := halve $$ Hr
  icases H with ⟨H1, H2⟩
  iapply (wp_send_rcv 7 fullShare.left (by decide) (by decide) rfl (dev_px c _ (k0_dev12_eq c)) (off3_at c 1) (off3_at c 1) rfl rfl rfl) $$ HR H1 Hd Hkit HO
  iintro ⟨H1, HO⟩
  iapply (wp_send_rcv 13 fullShare.right (by decide) (by decide) rfl (dev_pz c _ (k0_dev13_eq c)) (off3_at c 1) (off3_at c 1) rfl rfl rfl) $$ HR H2 Hd' Hkit' HO
  iintro ⟨H2, HO⟩
  iapply (landQ 1 rfl) $$ HL Hf HO
  iintro ⟨⟨Hs0, HW⟩, Hz, HO⟩
  iapply wp_load_slot $$ Hs0
  iintro Hs0
  iapply wp_done
  ihave Hs0 := slotHas_any $$ Hs0
  iapply Hk $$ H1 H2 HW Hs0 Hz HO

/-- The quarter across z stored; the third chunk received, and sent on across x. -/
theorem part12 {Q : _ → sProp 𝕄} {v : FVec F S256x1 .f32} :
    records m K ⊢ iprop(levAts L lv -∗ sAny c (qo 2 c) 1024 -∗ Rcv 2 c -∗ dst 8 c -∗ Kit 8 c -∗ Owes c [8, 14, 16, 9, 15, 10, 11]
      -∗ (sHas m c (qo 2 c) 1024 -∗ Zr 2 c -∗ Sent 8 c -∗ rHas m c (ck 0 2 c) 256 fullShare.right -∗ Owes c [14, 16, 9, 15, 10, 11]
        -∗ Q (k0_pay24 v (k0_pay21 (xb m c) (wblk m c (qo 2 c) 1024))))
      -∗ WP c (k0_part12 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6 u7 v (k0_pay21 (xb m c) (wblk m c (qo 2 c) 1024))) Q) := by
  rw [k0_part12_eq_skeleton]
  unfold k0_part12_skel
  simp only [Prog.lift, Prog.bind_op, Prog.bind_ret, Prog.pure_eq_ret]
  iintro #HR #HL ⟨%g, HS⟩ Hr Hd Hkit HO Hk
  iapply (wp_load_held (qo 2 c) (off10_at c) (Finset.Subset.refl _)) $$ HS
  iintro HS
  iapply (wp_store_held (qo 2 c) (off10_at c) (S_quarter m c 2 (by decide))) $$ HS
  iintro HS
  iapply (recvC 2 (by decide) (ck 0 2 c) rfl rfl (by decide)) $$ HR HL Hr HO
  iintro ⟨Hr, Hz, HO⟩
  ihave H := halve $$ Hr
  icases H with ⟨H1, H2⟩
  iapply (wp_send_rcv 8 fullShare.left (by decide) (by decide) rfl (dev_px c _ (k0_dev14_eq c)) (off3_at c 2) (off3_at c 2) rfl rfl rfl) $$ HR H1 Hd Hkit HO
  iintro ⟨H1, HO⟩
  iapply wp_done
  iapply Hk $$ HS Hz H1 H2 HO

/-- The third chunk sent on across z; the row sums sent. -/
theorem part13 {Q : _ → sProp 𝕄} :
    records m K ⊢ iprop(rHas m c (ck 0 2 c) 256 fullShare.right -∗ dst 14 c -∗ Kit 14 c -∗ (∃ g, held aM c 0 128 fullShare g) -∗ dst 16 c -∗ Kit 16 c
      -∗ Owes c [14, 16, 9, 15, 10, 11]
      -∗ (Sent 14 c -∗ Sent 16 c -∗ Owes c [9, 15, 10, 11] -∗ Q ⟨⟩)
      -∗ WP c (k0_part13 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6 (sloc m c)) Q) := by
  rw [k0_part13_eq_skeleton]
  unfold k0_part13_skel
  simp only [Prog.lift, Prog.bind_op, Prog.bind_ret, Prog.pure_eq_ret]
  iintro #HR H2 Hd Hkit ⟨%g, HS⟩ Hd' Hkit' HO Hk
  iapply (wp_send_rcv 14 fullShare.right (by decide) (by decide) rfl (dev_pz c _ (k0_dev15_eq c)) (off3_at c 2) (off3_at c 2) rfl rfl rfl) $$ HR H2 Hd Hkit HO
  iintro ⟨H2, HO⟩
  iapply (wp_load_held 0 rfl (Finset.Subset.refl _)) $$ HS
  iintro HS
  iapply (wp_store_held (g' := st m c) 0 rfl (colBlock_full (R := 256) (N := 128) (st m c)).symm) $$ HS
  iintro HS
  iapply (cur5 (wp_send_stats m K (dev_py c _ (k0_dev16_eq c)) rfl rfl)) $$ HR HS Hd' Hkit' HO
  iintro ⟨H1, HO⟩
  iapply wp_done
  iapply Hk $$ H2 H1 HO

/-- The fourth chunk received and sent on. -/
theorem part14 {Q : _ → sProp 𝕄} :
    records m K ⊢ iprop(levAts L lv -∗ Rcv 3 c -∗ dst 9 c -∗ dst 15 c -∗ Kit 9 c -∗ Kit 15 c -∗ Owes c [9, 15, 10, 11]
      -∗ (∀ b, Zr 3 c -∗ Sent 9 c -∗ Sent 15 c -∗ Owes c [10, 11] -∗ Q b)
      -∗ WP c (k0_part14 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6) Q) := by
  rw [k0_part14_eq_skeleton]
  unfold k0_part14_skel
  simp only [Prog.lift, Prog.bind_op, Prog.bind_ret, Prog.pure_eq_ret]
  iintro #HR #HL Hr Hd Hd' Hkit Hkit' HO Hk
  iapply (recvC 3 (by decide) (ck 0 3 c) rfl rfl (by decide)) $$ HR HL Hr HO
  iintro ⟨Hr, Hz, HO⟩
  ihave H := halve $$ Hr
  icases H with ⟨H1, H2⟩
  iapply (wp_send_rcv 9 fullShare.left (by decide) (by decide) rfl (dev_px c _ (k0_dev17_eq c)) (off3_at c 3) (off3_at c 3) rfl rfl rfl) $$ HR H1 Hd Hkit HO
  iintro ⟨H1, HO⟩
  iapply (wp_send_rcv 15 fullShare.right (by decide) (by decide) rfl (dev_pz c _ (k0_dev18_eq c)) (off3_at c 3) (off3_at c 3) rfl rfl rfl) $$ HR H2 Hd' Hkit' HO
  iintro ⟨H2, HO⟩
  iapply wp_done
  iapply Hk $$ %_ Hz H1 H2 HO

/-- The first chunk across z arrives and goes on across x; the second one arrives. -/
theorem part15 {Q : _ → sProp 𝕄} :
    records m K ⊢ iprop(levAts L lv -∗ Rcv 12 c -∗ dst 10 c -∗ Kit 10 c -∗ Rcv 13 c -∗ Owes c [10, 11]
      -∗ (Zr 12 c -∗ Sent 10 c -∗ rHas m c (ck 2 1 c) 256 fullShare -∗ Zr 13 c -∗ Owes c [11] -∗ Q ⟨⟩)
      -∗ WP c (k0_part15 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6 u7 u8) Q) := by
  rw [k0_part15_eq_skeleton]
  unfold k0_part15_skel
  simp only [Prog.lift, Prog.bind_op, Prog.bind_ret, Prog.pure_eq_ret]
  iintro #HR #HL Hr Hd Hkit Hr' HO Hk
  iapply (recvC 12 (by decide) (ck 2 0 c) rfl rfl (by decide)) $$ HR HL Hr HO
  iintro ⟨Hr, Hz, HO⟩
  iapply (wp_send_rcv 10 fullShare (by decide) (by decide) rfl (dev_px c _ (k0_dev19_eq c)) (off11_at c 0) (off11_at c 0) rfl rfl rfl) $$ HR Hr Hd Hkit HO
  iintro ⟨H1, HO⟩
  iapply (recvC 13 (by decide) (ck 2 1 c) rfl rfl (by decide)) $$ HR HL Hr' HO
  iintro ⟨Hr, Hz', HO⟩
  iapply wp_done
  iapply Hk $$ Hz H1 Hr Hz' HO

/-- The second chunk across z goes on; the neighbour's row sums arrive. -/
theorem part16 {Q : _ → sProp 𝕄} :
    records m K ⊢ iprop(levAts L lv -∗ rHas m c (ck 2 1 c) 256 fullShare -∗ dst 11 c -∗ Kit 11 c -∗ Rcv 16 c -∗ Owes c [11]
      -∗ (∀ b b', Sent 11 c -∗ held bM c 0 128 fullShare (st m (py c)) -∗ Zr 16 c -∗ Owes c [] -∗ Q ⟨inv m c, b, b'⟩)
      -∗ WP c (k0_part16 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6 (sloc m c)) Q) := by
  rw [k0_part16_eq_skeleton]
  unfold k0_part16_skel
  simp only [Prog.lift, Prog.bind_op, Prog.bind_ret, Prog.pure_eq_ret]
  iintro #HR #HL Hr Hd Hkit Hr' HO Hk
  iapply (wp_send_rcv 11 fullShare (by decide) (by decide) rfl (dev_px c _ (k0_dev20_eq c)) (off11_at c 1) (off11_at c 1) rfl rfl rfl) $$ HR Hr Hd Hkit HO
  iintro ⟨H1, HO⟩
  iapply (cur4 (wp_recv m K (k := 16) (ks := []) (dstw := bM) rfl rfl (by decide))) $$ HR HL Hr' HO
  iintro ⟨HB, Hz, HO⟩
  ihave HB := (Entails.of_eq (show recvPay m 16 c = held bM c 0 128 fullShare (st m (py c)) from rfl)) $$ HB
  iapply (wp_load_held 0 rfl (show cols 256 128 0 1 ⊆ cols 256 128 0 128 from fun i hi => by rw [mem_cols] at hi ⊢; omega)) $$ HB
  iintro HB
  iapply wp_done
  rw [show k0_pay26 (sloc m c) (colBlock (st m (py c)) 0 1) = inv m c from rfl]
  iapply Hk $$ %_ %_ H1 HB Hz HO

end Parts

end Cert.KernelIdeal.K

end
-- ==== Proof.Parts0.lean ====
/-
The opening of the body: the activations come in, the devices meet at the barrier, and the first weights are on their way.
-/
module

public import proofs.«01_k».proof.Proof.Parts2

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

section Parts
variable (m : (ℓ : Loc nD τ sig) → Buf (Elt F) ℓ) (K : Dev nD × Cell → ℕ) (c : Dev nD)

variable {m K c}
variable {h0 : (xH : Memref sig .tc .hbm S256x512 .f32).IsWhole} {h1 : (wH : Memref sig .tc .hbm S512x4096 .f32).IsWhole}
  {h2 : (oH : Memref sig .tc .hbm S256x8192 .bf16).IsWhole} {h3 : (xM : Memref sig .tc .vmem S256x512 .f32).IsWhole}
  {h4 : (wM : Memref sig .tc .vmem S2x512x1024 .f32).IsWhole} {h5 : (sM : Memref sig .tc .vmem S256x4096 .bf16).IsWhole}
  {h6 : (rM : Memref sig .tc .vmem S256x4096 .bf16).IsWhole} {h7 : (aM : Memref sig .tc .vmem S256x128 .bf16).IsWhole}
  {h8 : (bM : Memref sig .tc .vmem S256x128 .bf16).IsWhole} {u1 u2 u3 u4 u5 u6 u7 u8 u9 : BitVec 32} {ks : List (Fin 17)}

/-- The copy of the activations is started. -/
theorem part1 {Q : _ → sProp 𝕄} {g} :
    held xH c 0 512 fullShare (X m c) ⊢ iprop(held xM c 0 512 fullShare g -∗ Zl c 0
      -∗ (∀ b1 b2 b3 b4 b5 b6 b7 b8 b9 b10 b11 b12 b13 b14, Fly c (.dma (sL 0)) NX iprop(held xM c 0 512 fullShare (X m c) ∗ held xH c 0 512 fullShare (X m c))
        -∗ Q ⟨c, b1, b2, b3, b4, b5, b6, b7, b8, b9, b10, b11, b12, b13, b14⟩)
      -∗ WP c (k0_part1 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15) Q) := by
  rw [k0_part1_eq_skeleton]
  unfold k0_part1_skel
  simp only [Prog.lift, Prog.bind_op, Prog.bind_ret, Prog.pure_eq_ret, wp_deviceId]
  iintro Hx Hm Hz Hk
  iapply (cur3 (wp_copy_x m NX rfl rfl NX_pos)) $$ Hx Hm Hz
  iintro Hf
  iapply wp_done
  iapply Hk $$ %_ %_ %_ %_ %_ %_ %_ %_ %_ %_ %_ %_ %_ %_ Hf

/-- The first weights are on their way; the neighbours meet; the activations are read. -/
theorem part2 {Q : _ → sProp 𝕄} :
    records m K ⊢ iprop(levAts L lv -∗ Wc m c 0 -∗ slotAny c 0 -∗ Zl c 1
      -∗ dutyTok ER (barCell (nb 0 c)) 0 0 -∗ dutyTok ER (barCell (nb 1 c)) 0 1 -∗ dutyTok ER (barCell (nb 2 c)) 0 2
      -∗ barPay (nb 0 c) 0 -∗ barPay (nb 1 c) 1 -∗ barPay (nb 2 c) 2
      -∗ (∃ W, owes (c : Thread nD τ) (O₀ c) W) -∗ cred (tallyAt (barCell c) () 3) -∗ atPos ER (barCell c) 0 ∅ 0
      -∗ Fly c (.dma (sL 0)) NX iprop(held xM c 0 512 fullShare (X m c) ∗ held xH c 0 512 fullShare (X m c))
      -∗ (FlyC m c 0 1 0 -∗ (barPay c 0 ∗ barPay c 1 ∗ barPay c 2) -∗ Zb c -∗ held xM c 0 512 fullShare (X m c) -∗ held xH c 0 512 fullShare (X m c)
        -∗ Zl c 0 -∗ Owes c allK -∗ Q ⟨xb m c, k0_pay2 (F := F)⟩)
      -∗ WP c (k0_part2 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6) Q) := by
  rw [k0_part2_eq_skeleton]
  unfold k0_part2_skel
  simp only [semSignalWord, semWaitWord, Prog.lift, Prog.bind_op, Prog.bind_ret, Prog.pure_eq_ret]
  iintro #HR #HL HW Hs Hz Ht0 Ht1 Ht2 Hp0 Hp1 Hp2 HO Hc Hat Hx Hk
  iapply (cur3 (wp_fetch (s := 0) m 1 (ck 0 0 c) NWc rfl (off1_at c 0) rfl NWc_pos)) $$ HW Hs Hz
  iintro Hf
  ihave HO := (Entails.of_eq (show iprop(∃ W, owes (c : Thread nD τ) (O₀ c) W) = (iprop(∃ W, owes (c : Thread nD τ) (owed c allK
    + tallyAt (barCell (nb 2 c)) () 1 + tallyAt (barCell (nb 1 c)) () 1 + tallyAt (barCell (nb 0 c)) () 1) W) : sProp 𝕄) from rfl)) $$ HO
  iapply (cur4 (wp_sig m K 0 (O := owed c allK + tallyAt (barCell (nb 2 c)) () 1 + tallyAt (barCell (nb 1 c)) () 1) (dev_py c _ (k0_dev1_eq c)))) $$ HR Ht0 Hp0 HO
  iintro HO
  iapply (cur4 (wp_sig m K 1 (O := owed c allK + tallyAt (barCell (nb 2 c)) () 1) (dev_px c _ (k0_dev2_eq c)))) $$ HR Ht1 Hp1 HO
  iintro HO
  iapply (cur4 (wp_sig m K 2 (O := owed c allK) (dev_pz c _ (k0_dev3_eq c)))) $$ HR Ht2 Hp2 HO
  iintro HO
  ihave HO := (Entails.of_eq (show iprop(∃ W, owes (c : Thread nD τ) (owed c allK) W) = (Owes c allK : sProp 𝕄) from rfl)) $$ HO
  iapply (cur5 (wp_bar m K)) $$ HR HL Hc Hat HO
  iintro ⟨Hp, Hb, HO⟩
  iapply (cur3 (wp_landL (n := NX) (dstw := xM) 0 rfl rfl lvR_pos)) $$ HL Hx HO
  iintro ⟨⟨Hm, Hx⟩, Hz, HO⟩
  iapply (wp_load_held 0 rfl (Finset.Subset.refl _)) $$ Hm
  iintro Hm
  iapply wp_done
  rw [show k0_pay1 (colBlock (X m c) 0 512) = xb m c from congrArg k0_pay1 (colBlock_full (R := 256) (N := 512) (X m c))]
  iapply Hk $$ Hf Hp Hb Hm Hx Hz HO

end Parts

end Cert.KernelIdeal.K

end
-- ==== Proof.Rules.lean ====
/-
The rules the second half of the body uses: departures are waited for, columns are put back together, scaled columns are copied to
the result.
-/
module

public import proofs.«01_k».proof.Proof.Parts2

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-- What a copy of a chunk, and of a quarter, to the result credits. -/
def NOc : ℕ := (oH.slice (Rect.unit (s := S256x8192) ![0, 0] S256x256.size (by decide)) (fun _ => rfl)).view.dmaCredit
def NOq : ℕ := (oH.slice (Rect.unit (s := S256x8192) ![0, 0] S256x1024.size (by decide)) (fun _ => rfl)).view.dmaCredit
theorem NOc_pos : 0 < NOc := View.dmaCredit_pos _ (by decide)
theorem NOq_pos : 0 < NOq := View.dmaCredit_pos _ (by decide)

section Columns
variable {R N : ℕ} {sp : Space} {e : EltTy} {mr : Memref sig .tc sp ⟨2, ![R, N]⟩ e} {d : Dev nD} {q : PosShare TreeShare} {g : Shape.Idx ⟨2, ![R, N]⟩ → Elt F e}

omit [FloatOps F] in
theorem held_join (l w w' : ℕ) : (held mr d l w q g : sProp 𝕄) ⊢ iprop(held mr d (l + w) w' q g -∗ held mr d l (w + w') q g) := by
  have h := BI.wand_intro (heldOn_join (F := F) (m := mr) (d := d) (q := q) (g := g) (cols_disjoint (R := R) (N := N) (lo := l) (w := w) (lo' := l + w) (w' := w') (Or.inl le_rfl)))
  rw [cols_union] at h
  exact h
omit [FloatOps F] in
theorem held_split (l w w' : ℕ) : (held mr d l (w + w') q g : sProp 𝕄) ⊢ iprop(held mr d l w q g ∗ held mr d (l + w) w' q g) := by
  have h := heldOn_split (F := F) (m := mr) (d := d) (q := q) (g := g) (cols_disjoint (R := R) (N := N) (lo := l) (w := w) (lo' := l + w) (w' := w') (Or.inl le_rfl))
  rw [cols_union] at h
  exact h
omit [FloatOps F] in
/-- A quarter from its chunks. -/
theorem held_chunks (l : ℕ) : (held mr d l 256 q g : sProp 𝕄)
    ⊢ iprop(held mr d (l + 256) 256 q g -∗ held mr d (l + 512) 256 q g -∗ held mr d (l + 768) 256 q g -∗ held mr d l 1024 q g) := by
  iintro H0 H1 H2 H3
  ihave H := (held_join l 256 256) $$ H0 H1
  ihave H := (held_join l 512 256) $$ H H2
  iapply (held_join l 768 256) $$ H H3
omit [FloatOps F] in
/-- A quarter to its chunks. -/
theorem held_quarter (l : ℕ) : (held mr d l 1024 q g : sProp 𝕄)
    ⊢ iprop(held mr d l 256 q g ∗ held mr d (l + 256) 256 q g ∗ held mr d (l + 512) 256 q g ∗ held mr d (l + 768) 256 q g) := by
  iintro H
  ihave H := (held_split l 768 256) $$ H
  icases H with ⟨H, H3⟩
  ihave H := (held_split l 512 256) $$ H
  icases H with ⟨H, H2⟩
  ihave H := (held_split l 256 256) $$ H
  icases H with ⟨H, H1⟩
  isplitl [H]; · iexact H
  isplitl [H1]; · iexact H1
  isplitl [H2]; · iexact H2
  iexact H3

/-- The roles of a device's quarters, as a permutation. -/
def roleEquiv (c : Dev nD) : Fin 4 ≃ Fin 4 where
  toFun := roleOf c
  invFun := roleOf c
  left_inv := by revert c; decide +kernel
  right_inv := by revert c; decide +kernel

omit [FloatOps F] in
/-- The four quarters by role are the four quarters in order. -/
theorem roles_order (c : Dev nD) (P : ℕ → sProp 𝕄) :
    iprop(P (qo 0 c) ∗ P (qo 1 c) ∗ P (qo 2 c) ∗ P (qo 3 c)) = iprop(P 0 ∗ P 1024 ∗ P 2048 ∗ P 3072) := by
  have h1 := bigSep_univ_eq_bigSepL [0, 1, 2, 3] (by decide) (by decide) (fun r : Fin 4 => P (qo r c))
  have h2 := bigSep_univ_eq_bigSepL [0, 1, 2, 3] (by decide) (by decide) (fun t : Fin 4 => P (1024 * t.val))
  have h3 := bigSep_univ_equiv (roleEquiv c) (fun r : Fin 4 => P (qo r c))
  have h4 : (fun t : Fin 4 => P (qo (roleEquiv c t) c)) = fun t : Fin 4 => P (1024 * t.val) := funext fun t => congrArg P (qo_roleOf c t)
  rw [h4] at h3
  exact (h1.symm.trans h3).trans h2
end Columns

section Rules
variable (m : (ℓ : Loc nD τ sig) → Buf (Elt F) ℓ) (K : Dev nD × Cell → ℕ) (c : Dev nD)

/-- Columns of the result. -/
abbrev oAny (l w : ℕ) : sProp 𝕄 := iprop(∃ g, held oH c l w fullShare g)
abbrev oHas (l w : ℕ) : sProp 𝕄 := held oH c l w fullShare (O m c)
/-- Scaled columns of the two buffers. -/
abbrev sDone (l w : ℕ) : sProp 𝕄 := held sM c l w fullShare (SS m c)
abbrev rDone (l w : ℕ) : sProp 𝕄 := held rM c l w fullShare (RR m c)
/-- Their copies to the result under way. -/
abbrev FlyS (i : Fin 20) (l : ℕ) : sProp 𝕄 := Fly c (.dma (sL i)) NOq iprop(oHas m c (hOwn c + l) 1024 ∗ sDone m c l 1024)
abbrev FlyR (i : Fin 20) (l : ℕ) : sProp 𝕄 := Fly c (.dma (sL i)) NOc iprop(oHas m c (hRem c + l) 256 ∗ rDone m c l 256)
abbrev FlyG (i : Fin 20) (l : ℕ) : sProp 𝕄 := Fly c (.dma (sL i)) NOq iprop(oHas m c (hRem c + l) 1024 ∗ rDone m c l 1024)

variable {m K c} {ks : List (Fin 17)}

theorem scaleS (l : ℕ) : k0_pay27 (inv m c) (colBlock (S m c) l 1024) = colBlock (SS m c) l 1024 := pay27_sc _ _
theorem scaleG (l : ℕ) : k0_pay27 (inv m c) (colBlock (R m c) l 1024) = colBlock (RR m c) l 1024 := pay27_sc _ _
theorem scaleR (l : ℕ) : k0_pay33 (inv m c) (colBlock (R m c) l 256) = colBlock (RR m c) l 256 := pay33_sc _ _

section Waits
variable {α : Type} {cont : PUnit → Prog (TpuEff nD τ sig (Elt F) Λ₀ .tc) α} {off : Fin 2 → ℕ} {sm : DmaSem sig} {sp' : Space} {s' : Shape} {e' : EltTy}
  {srcw : Memref sig .tc sp' s' e'} {hsrc : srcw.view.WordExact}

/-- The waits for departures, named by the buffer whose columns are waited on. -/
theorem backS {Q : α → sProp 𝕄} (k : Fin 17) (hk : k.val < 16)
    {inb : ∀ a : Fin 2, off a + (![256, 256] : Fin 2 → ℕ) a ≤ (![256, 4096] : Fin 2 → ℕ) a} {hs} {hdst} (hsm : sm = sS k) :
    records m K ⊢ iprop(Sent k c -∗ Owes c [] -∗ (iprop(sendPay m k c ∗ Zs k c ∗ Owes c []) -∗ WP c (cont ⟨⟩) Q)
      -∗ WP c (.op (.waitDma2 sm srcw (sM.slice (Rect.unit (s := S256x4096) off ![256, 256] inb) hs) hsrc hdst) cont) Q) :=
  cur3 (wp_back m K hsm (show _ = amt k by unfold amt; rw [if_neg (fun h => by rw [h] at hk; exact absurd hk (by decide))]; rfl))
theorem backR {Q : α → sProp 𝕄} (k : Fin 17) (hk : k.val < 16)
    {inb : ∀ a : Fin 2, off a + (![256, 256] : Fin 2 → ℕ) a ≤ (![256, 4096] : Fin 2 → ℕ) a} {hs} {hdst} (hsm : sm = sS k) :
    records m K ⊢ iprop(Sent k c -∗ Owes c [] -∗ (iprop(sendPay m k c ∗ Zs k c ∗ Owes c []) -∗ WP c (cont ⟨⟩) Q)
      -∗ WP c (.op (.waitDma2 sm srcw (rM.slice (Rect.unit (s := S256x4096) off ![256, 256] inb) hs) hsrc hdst) cont) Q) :=
  cur3 (wp_back m K hsm (show _ = amt k by unfold amt; rw [if_neg (fun h => by rw [h] at hk; exact absurd hk (by decide))]; rfl))

/-- The waits for copies to the result. -/
theorem landOc {Q : α → sProp 𝕄} {D : sProp 𝕄} (i : Fin 20)
    {inb : ∀ a : Fin 2, off a + (![256, 256] : Fin 2 → ℕ) a ≤ (![256, 8192] : Fin 2 → ℕ) a} {hs} {hdst} (hsm : sm = sL i) :
    levAts L lv ⊢ iprop(Fly c (.dma (sL i)) NOc D -∗ Owes c ks -∗ (iprop(D ∗ Zl c i ∗ Owes c ks) -∗ WP c (cont ⟨⟩) Q)
      -∗ WP c (.op (.waitDma2 sm srcw (oH.slice (Rect.unit (s := S256x8192) off ![256, 256] inb) hs) hsrc hdst) cont) Q) :=
  cur3 (wp_landL i hsm rfl lvR_pos)
theorem landOq {Q : α → sProp 𝕄} {D : sProp 𝕄} (i : Fin 20)
    {inb : ∀ a : Fin 2, off a + (![256, 1024] : Fin 2 → ℕ) a ≤ (![256, 8192] : Fin 2 → ℕ) a} {hs} {hdst} (hsm : sm = sL i) :
    levAts L lv ⊢ iprop(Fly c (.dma (sL i)) NOq D -∗ Owes c ks -∗ (iprop(D ∗ Zl c i ∗ Owes c ks) -∗ WP c (cont ⟨⟩) Q)
      -∗ WP c (.op (.waitDma2 sm srcw (oH.slice (Rect.unit (s := S256x8192) off ![256, 1024] inb) hs) hsrc hdst) cont) Q) :=
  cur3 (wp_landL i hsm rfl lvR_pos)
end Waits

section Outs
variable {α : Type} {cont : PUnit → Prog (TpuEff nD τ sig (Elt F) Λ₀ .tc) α} {off off' : Fin 2 → ℕ} {sm : DmaSem sig}

/-- The copies to the result. -/
theorem outS {Q : α → sProp 𝕄} (i : Fin 20) (l : ℕ) (hl : l + 1024 ≤ 4096)
    {inb : ∀ a : Fin 2, off a + (![256, 1024] : Fin 2 → ℕ) a ≤ (![256, 4096] : Fin 2 → ℕ) a}
    {inb' : ∀ a : Fin 2, off' a + (![256, 1024] : Fin 2 → ℕ) a ≤ (![256, 8192] : Fin 2 → ℕ) a} {hs hs'} {hsrc hdst hsem}
    (hsm : sm = sL i) (ho : off = ![0, l]) (ho' : off' = ![0, hOwn c + l]) :
    sDone m c l 1024 ⊢ iprop(oAny c (hOwn c + l) 1024 -∗ Zl c i -∗ (FlyS m c i l -∗ WP c (cont ⟨⟩) Q)
      -∗ WP c (.op (.enqueueDma (sM.slice (Rect.unit (s := S256x4096) off ![256, 1024] inb) hs)
          (.here (oH.slice (Rect.unit (s := S256x8192) off' ![256, 1024] inb') hs')) (.dma sm) hsrc hdst hsem) cont) Q) := by
  subst hsm
  iintro H ⟨%g, Ho⟩ Hz
  ihave Hz := (Entails.of_eq (show Zl c i = (semVal (((c : Thread nD τ), .dma (sL i)) : GSem nD τ sig) 0 : sProp 𝕄) from rfl)) $$ Hz
  iapply (cur3 (wp_copy_held (sm := sL i) l (hOwn c + l) NOq ho ho' (O_own m c l 1024 hl).symm rfl NOq_pos)) $$ H Ho Hz
theorem outR {Q : α → sProp 𝕄} (i : Fin 20) (r k : Fin 4)
    {inb : ∀ a : Fin 2, off a + (![256, 256] : Fin 2 → ℕ) a ≤ (![256, 4096] : Fin 2 → ℕ) a}
    {inb' : ∀ a : Fin 2, off' a + (![256, 256] : Fin 2 → ℕ) a ≤ (![256, 8192] : Fin 2 → ℕ) a} {hs hs'} {hsrc hdst hsem}
    (hsm : sm = sL i) (ho : off = ![0, ck r k c]) (ho' : off' = ![0, hRem c + ck r k c]) :
    rDone m c (ck r k c) 256 ⊢ iprop(oAny c (hRem c + ck r k c) 256 -∗ Zl c i -∗ (FlyR m c i (ck r k c) -∗ WP c (cont ⟨⟩) Q)
      -∗ WP c (.op (.enqueueDma (rM.slice (Rect.unit (s := S256x4096) off ![256, 256] inb) hs)
          (.here (oH.slice (Rect.unit (s := S256x8192) off' ![256, 256] inb') hs')) (.dma sm) hsrc hdst hsem) cont) Q) := by
  subst hsm
  have h := qo_lt r c
  have hk := k.isLt
  iintro H ⟨%g, Ho⟩ Hz
  ihave Hz := (Entails.of_eq (show Zl c i = (semVal (((c : Thread nD τ), .dma (sL i)) : GSem nD τ sig) 0 : sProp 𝕄) from rfl)) $$ Hz
  iapply (cur3 (wp_copy_held (sm := sL i) (ck r k c) (hRem c + ck r k c) NOc ho ho' (O_rem m c (ck r k c) 256 (by unfold ck; omega)).symm rfl NOc_pos)) $$ H Ho Hz
theorem outG {Q : α → sProp 𝕄} (i : Fin 20) (r : Fin 4)
    {inb : ∀ a : Fin 2, off a + (![256, 1024] : Fin 2 → ℕ) a ≤ (![256, 4096] : Fin 2 → ℕ) a}
    {inb' : ∀ a : Fin 2, off' a + (![256, 1024] : Fin 2 → ℕ) a ≤ (![256, 8192] : Fin 2 → ℕ) a} {hs hs'} {hsrc hdst hsem}
    (hsm : sm = sL i) (ho : off = ![0, qo r c]) (ho' : off' = ![0, hRem c + qo r c]) :
    rDone m c (qo r c) 1024 ⊢ iprop(oAny c (hRem c + qo r c) 1024 -∗ Zl c i -∗ (FlyG m c i (qo r c) -∗ WP c (cont ⟨⟩) Q)
      -∗ WP c (.op (.enqueueDma (rM.slice (Rect.unit (s := S256x4096) off ![256, 1024] inb) hs)
          (.here (oH.slice (Rect.unit (s := S256x8192) off' ![256, 1024] inb') hs')) (.dma sm) hsrc hdst hsem) cont) Q) := by
  subst hsm
  iintro H ⟨%g, Ho⟩ Hz
  ihave Hz := (Entails.of_eq (show Zl c i = (semVal (((c : Thread nD τ), .dma (sL i)) : GSem nD τ sig) 0 : sProp 𝕄) from rfl)) $$ Hz
  iapply (cur3 (wp_copy_held (sm := sL i) (qo r c) (hRem c + qo r c) NOq ho ho' (O_rem m c (qo r c) 1024 (qo_lt r c)).symm rfl NOq_pos)) $$ H Ho Hz
end Outs

/-! ## What is put back together -/

/-- The send buffer, once all its chunks are back. -/
theorem mergeS : (sHas m c (qo 0 c) 1024 : sProp 𝕄)
    ⊢ iprop(sHas m c (qo 1 c) 1024 -∗ sHas m c (qo 2 c) 1024 -∗ sHas m c (qo 3 c) 512 -∗ sendPay m 4 c -∗ sendPay m 5 c
      -∗ (sHas m c 0 1024 ∗ sHas m c 1024 1024 ∗ sHas m c 2048 1024 ∗ sHas m c 3072 1024)) := by
  rw [← roles_order c (fun l => sHas m c l 1024)]
  iintro H0 H1 H2 H3 Hp4 Hp5
  isplitl [H0]; · iexact H0
  isplitl [H1]; · iexact H1
  isplitl [H2]; · iexact H2
  ihave Hp4 := (Entails.of_eq (show sendPay m 4 c = sHas m c (qo 3 c + 512) 256 from rfl)) $$ Hp4
  ihave Hp5 := (Entails.of_eq (show sendPay m 5 c = sHas m c (qo 3 c + 768) 256 from rfl)) $$ Hp5
  ihave H := (held_join (qo 3 c) 512 256) $$ H3 Hp4
  iapply (held_join (qo 3 c) 768 256) $$ H Hp5

/-- The owned quarter of the send buffer, once its chunks are back. -/
theorem mergeS0 : sendPay m 0 c ⊢ iprop(sendPay m 1 c -∗ sendPay m 2 c -∗ sendPay m 3 c -∗ sHas m c (qo 0 c) 1024) := by
  iintro H0 H1 H2 H3
  ihave H0 := (Entails.of_eq (show sendPay m 0 c = sHas m c (qo 0 c) 256 from rfl)) $$ H0
  ihave H1 := (Entails.of_eq (show sendPay m 1 c = sHas m c (qo 0 c + 256) 256 from rfl)) $$ H1
  ihave H2 := (Entails.of_eq (show sendPay m 2 c = sHas m c (qo 0 c + 512) 256 from rfl)) $$ H2
  ihave H3 := (Entails.of_eq (show sendPay m 3 c = sHas m c (qo 0 c + 768) 256 from rfl)) $$ H3
  iapply (held_chunks (qo 0 c)) $$ H0 H1 H2 H3

/-- The two shares of a chunk sent on twice. -/
theorem rejoin {l : ℕ} : (rHas m c l 256 fullShare.left : sProp 𝕄) ⊢ iprop(rHas m c l 256 fullShare.right -∗ rHas m c l 256 fullShare) :=
  BI.wand_intro (heldOn_unshare (PosShare.mem_left_op_right fullShare))

/-- The owned quarter of the receive buffer, once its chunks are back from both neighbours. -/
theorem mergeR : sendPay m 6 c ⊢ iprop(sendPay m 12 c -∗ sendPay m 7 c -∗ sendPay m 13 c -∗ sendPay m 8 c -∗ sendPay m 14 c -∗ sendPay m 9 c -∗ sendPay m 15 c
    -∗ rHas m c (qo 0 c) 1024 fullShare) := by
  iintro A0 B0 A1 B1 A2 B2 A3 B3
  ihave A0 := (Entails.of_eq (show sendPay m 6 c = rHas m c (qo 0 c) 256 fullShare.left from rfl)) $$ A0
  ihave B0 := (Entails.of_eq (show sendPay m 12 c = rHas m c (qo 0 c) 256 fullShare.right from rfl)) $$ B0
  ihave A1 := (Entails.of_eq (show sendPay m 7 c = rHas m c (qo 0 c + 256) 256 fullShare.left from rfl)) $$ A1
  ihave B1 := (Entails.of_eq (show sendPay m 13 c = rHas m c (qo 0 c + 256) 256 fullShare.right from rfl)) $$ B1
  ihave A2 := (Entails.of_eq (show sendPay m 8 c = rHas m c (qo 0 c + 512) 256 fullShare.left from rfl)) $$ A2
  ihave B2 := (Entails.of_eq (show sendPay m 14 c = rHas m c (qo 0 c + 512) 256 fullShare.right from rfl)) $$ B2
  ihave A3 := (Entails.of_eq (show sendPay m 9 c = rHas m c (qo 0 c + 768) 256 fullShare.left from rfl)) $$ A3
  ihave B3 := (Entails.of_eq (show sendPay m 15 c = rHas m c (qo 0 c + 768) 256 fullShare.right from rfl)) $$ B3
  ihave H0 := rejoin $$ A0 B0
  ihave H1 := rejoin $$ A1 B1
  ihave H2 := rejoin $$ A2 B2
  ihave H3 := rejoin $$ A3 B3
  iapply (held_chunks (qo 0 c)) $$ H0 H1 H2 H3

end Rules

end Cert.KernelIdeal.K

end
-- ==== Proof.Parts3.lean ====
/-
The pieces of the body that wait for the first departures and scale and write out what is there, up to the quarter across z.
-/
module

public import proofs.«01_k».proof.Proof.Rules

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

section Parts
variable {m : (ℓ : Loc nD τ sig) → Buf (Elt F) ℓ} {K : Dev nD × Cell → ℕ} {c : Dev nD}
variable {h0 : (xH : Memref sig .tc .hbm S256x512 .f32).IsWhole} {h1 : (wH : Memref sig .tc .hbm S512x4096 .f32).IsWhole}
  {h2 : (oH : Memref sig .tc .hbm S256x8192 .bf16).IsWhole} {h3 : (xM : Memref sig .tc .vmem S256x512 .f32).IsWhole}
  {h4 : (wM : Memref sig .tc .vmem S2x512x1024 .f32).IsWhole} {h5 : (sM : Memref sig .tc .vmem S256x4096 .bf16).IsWhole}
  {h6 : (rM : Memref sig .tc .vmem S256x4096 .bf16).IsWhole} {h7 : (aM : Memref sig .tc .vmem S256x128 .bf16).IsWhole}
  {h8 : (bM : Memref sig .tc .vmem S256x128 .bf16).IsWhole} {u1 u2 u3 u4 u5 u6 u7 u8 u9 : BitVec 32} {ks : List (Fin 17)}

/-- The first five chunks have left. -/
theorem part17 {Q : _ → sProp 𝕄} :
    records m K ⊢ iprop(Sent 0 c -∗ Sent 1 c -∗ Sent 2 c -∗ Sent 3 c -∗ Sent 4 c -∗ Owes c []
      -∗ (sendPay m 0 c -∗ sendPay m 1 c -∗ sendPay m 2 c -∗ sendPay m 3 c -∗ sendPay m 4 c
        -∗ (Zs 0 c ∗ Zs 1 c ∗ Zs 2 c ∗ Zs 3 c ∗ Zs 4 c) -∗ Owes c [] -∗ Q ⟨⟩)
      -∗ WP c (k0_part17 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2) Q) := by
  rw [k0_part17_eq_skeleton]
  unfold k0_part17_skel
  simp only [Prog.lift, Prog.bind_op, Prog.bind_ret, Prog.pure_eq_ret]
  iintro #HR H0 H1 H2 H3 H4 HO Hk
  iapply (backS 0 (by decide) rfl) $$ HR H0 HO
  iintro ⟨H0, Z0, HO⟩
  iapply (backS 1 (by decide) rfl) $$ HR H1 HO
  iintro ⟨H1, Z1, HO⟩
  iapply (backS 2 (by decide) rfl) $$ HR H2 HO
  iintro ⟨H2, Z2, HO⟩
  iapply (backS 3 (by decide) rfl) $$ HR H3 HO
  iintro ⟨H3, Z3, HO⟩
  iapply (backS 4 (by decide) rfl) $$ HR H4 HO
  iintro ⟨H4, Z4, HO⟩
  iapply wp_done
  iapply Hk $$ H0 H1 H2 H3 H4 [Z0 Z1 Z2 Z3 Z4] HO
  isplitl [Z0]; · iexact Z0
  isplitl [Z1]; · iexact Z1
  isplitl [Z2]; · iexact Z2
  isplitl [Z3]; · iexact Z3
  iexact Z4

/-- The last chunk and the row sums have left: the send buffer is whole again. Its first two quarters are scaled and written out, and
the third one read. -/
theorem part18 {Q : _ → sProp 𝕄} :
    records m K ⊢ iprop(Sent 5 c -∗ Sent 16 c -∗ Owes c []
      -∗ sHas m c (qo 0 c) 1024 -∗ sHas m c (qo 1 c) 1024 -∗ sHas m c (qo 2 c) 1024 -∗ sHas m c (qo 3 c) 512 -∗ sendPay m 4 c
      -∗ oAny c (hOwn c + 0) 1024 -∗ Zl c 3 -∗ oAny c (hOwn c + 1024) 1024 -∗ Zl c 4
      -∗ (Zs 5 c -∗ sendPay m 16 c -∗ Zs 16 c -∗ FlyS m c 3 0 -∗ FlyS m c 4 1024 -∗ sHas m c 2048 1024 -∗ sHas m c 3072 1024 -∗ Owes c []
        -∗ Q ⟨k0_pay29 (colBlock (S m c) 2048 1024), k0_pay30 (inv m c)⟩)
      -∗ WP c (k0_part18 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c (inv m c) u1) Q) := by
  rw [k0_part18_eq_skeleton]
  unfold k0_part18_skel
  simp only [Prog.lift, Prog.bind_op, Prog.bind_ret, Prog.pure_eq_ret]
  iintro #HR H5 H16 HO Q0 Q1 Q2 Q3 P4 O0 L0 O1 L1 Hk
  iapply (backS 5 (by decide) rfl) $$ HR H5 HO
  iintro ⟨P5, Z5, HO⟩
  iapply (cur3 (wp_back m K (k := 16) (dstw := aM) rfl rfl)) $$ HR H16 HO
  iintro ⟨P16, Z16, HO⟩
  ihave H := mergeS $$ Q0 Q1 Q2 Q3 P4 P5
  icases H with ⟨Q0, Q1, Q2, Q3⟩
  iapply (wp_load_held 0 rfl (Finset.Subset.refl _)) $$ Q0
  iintro Q0
  iapply (wp_load_held 0 rfl (Finset.Subset.refl _)) $$ Q0
  iintro Q0
  iapply (wp_store_held (g' := SS m c) 0 rfl (scaleS 0)) $$ Q0
  iintro Q0
  iapply (outS 3 0 (by decide) rfl rfl (off12_at c 0)) $$ Q0 O0 L0
  iintro Q0
  iapply (wp_load_held 1024 rfl (Finset.Subset.refl _)) $$ Q1
  iintro Q1
  iapply (wp_load_held 1024 rfl (Finset.Subset.refl _)) $$ Q1
  iintro Q1
  iapply (wp_store_held (g' := SS m c) 1024 rfl (scaleS 1024)) $$ Q1
  iintro Q1
  iapply (outS 4 1024 (by decide) rfl rfl (off12_at c 1)) $$ Q1 O1 L1
  iintro Q1
  iapply (wp_load_held 2048 rfl (Finset.Subset.refl _)) $$ Q2
  iintro Q2
  iapply wp_done
  iapply Hk $$ Z5 P16 Z16 Q0 Q1 Q2 Q3 HO

/-- The last two quarters of the send buffer are scaled and written out. -/
theorem part19 {Q : _ → sProp 𝕄} :
    sHas m c 2048 1024 ⊢ iprop(sHas m c 3072 1024 -∗ oAny c (hOwn c + 2048) 1024 -∗ Zl c 5 -∗ oAny c (hOwn c + 3072) 1024 -∗ Zl c 6
      -∗ (FlyS m c 5 2048 -∗ FlyS m c 6 3072 -∗ Q ⟨⟩)
      -∗ WP c (k0_part19 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 (inv m c) u5 (k0_pay29 (colBlock (S m c) 2048 1024)) (k0_pay30 (inv m c))) Q) := by
  rw [k0_part19_eq_skeleton]
  unfold k0_part19_skel
  simp only [Prog.lift, Prog.bind_op, Prog.bind_ret, Prog.pure_eq_ret]
  iintro Q0 Q1 O0 L0 O1 L1 Hk
  iapply (wp_load_held 2048 rfl (Finset.Subset.refl _)) $$ Q0
  iintro Q0
  iapply (wp_store_held (g' := SS m c) 2048 rfl (scaleS 2048)) $$ Q0
  iintro Q0
  iapply (outS 5 2048 (by decide) rfl rfl (off12_at c 2)) $$ Q0 O0 L0
  iintro Q0
  iapply (wp_load_held 3072 rfl (Finset.Subset.refl _)) $$ Q1
  iintro Q1
  iapply (wp_load_held 3072 rfl (Finset.Subset.refl _)) $$ Q1
  iintro Q1
  iapply (wp_store_held (g' := SS m c) 3072 rfl (scaleS 3072)) $$ Q1
  iintro Q1
  iapply (outS 6 3072 (by decide) rfl rfl (off12_at c 3)) $$ Q1 O1 L1
  iintro Q1
  iapply wp_done
  iapply Hk $$ Q0 Q1

/-- The first chunk across x arrives, is scaled and written out; the second one arrives and is read. -/
theorem part20 {Q : _ → sProp 𝕄} :
    records m K ⊢ iprop(levAts L lv -∗ Rcv 6 c -∗ Rcv 7 c -∗ Owes c [] -∗ oAny c (hRem c + ck 1 0 c) 256 -∗ Zl c 7
      -∗ (∀ b, Zr 6 c -∗ FlyR m c 7 (ck 1 0 c) -∗ Zr 7 c -∗ rHas m c (ck 1 1 c) 256 fullShare -∗ Owes c []
        -∗ Q ⟨b, k0_pay34 (inv m c) (colBlock (R m c) (ck 1 1 c) 256)⟩)
      -∗ WP c (k0_part20 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 (inv m c) u6) Q) := by
  rw [k0_part20_eq_skeleton]
  unfold k0_part20_skel
  simp only [Prog.lift, Prog.bind_op, Prog.bind_ret, Prog.pure_eq_ret]
  iintro #HR #HL R0 R1 HO O0 L0 Hk
  iapply (recvC 6 (by decide) (ck 1 0 c) rfl rfl (by decide)) $$ HR HL R0 HO
  iintro ⟨Q0, Z0, HO⟩
  iapply (wp_load_held (ck 1 0 c) (off13_at c 0) (Finset.Subset.refl _)) $$ Q0
  iintro Q0
  iapply (wp_load_held (ck 1 0 c) (off13_at c 0) (Finset.Subset.refl _)) $$ Q0
  iintro Q0
  iapply (wp_store_held (g' := RR m c) (ck 1 0 c) (off13_at c 0) (scaleR _)) $$ Q0
  iintro Q0
  iapply (outR 7 1 0 rfl (off15_at c 0) (off14_at c 0)) $$ Q0 O0 L0
  iintro Q0
  iapply (recvC 7 (by decide) (ck 1 1 c) rfl rfl (by decide)) $$ HR HL R1 HO
  iintro ⟨Q1, Z1, HO⟩
  iapply (wp_load_held (ck 1 1 c) (off13_at c 1) (Finset.Subset.refl _)) $$ Q1
  iintro Q1
  iapply wp_done
  iapply Hk $$ %_ Z0 Q0 Z1 Q1 HO

/-- The second chunk across x is scaled and written out; so is the third one, once it is there. -/
theorem part21 {Q : _ → sProp 𝕄} :
    records m K ⊢ iprop(levAts L lv -∗ rHas m c (ck 1 1 c) 256 fullShare -∗ oAny c (hRem c + ck 1 1 c) 256 -∗ Zl c 8
      -∗ Rcv 8 c -∗ Owes c [] -∗ oAny c (hRem c + ck 1 2 c) 256 -∗ Zl c 9
      -∗ (FlyR m c 8 (ck 1 1 c) -∗ Zr 8 c -∗ FlyR m c 9 (ck 1 2 c) -∗ Owes c [] -∗ Q ⟨⟩)
      -∗ WP c (k0_part21 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 (inv m c) u6 u7 (k0_pay34 (inv m c) (colBlock (R m c) (ck 1 1 c) 256))) Q) := by
  rw [k0_part21_eq_skeleton]
  unfold k0_part21_skel
  simp only [Prog.lift, Prog.bind_op, Prog.bind_ret, Prog.pure_eq_ret]
  iintro #HR #HL Q0 O0 L0 R1 HO O1 L1 Hk
  iapply (wp_load_held (ck 1 1 c) (off13_at c 1) (Finset.Subset.refl _)) $$ Q0
  iintro Q0
  iapply (wp_store_held (g' := RR m c) (ck 1 1 c) (off13_at c 1) (scaleR _)) $$ Q0
  iintro Q0
  iapply (outR 8 1 1 rfl (off15_at c 1) (off14_at c 1)) $$ Q0 O0 L0
  iintro Q0
  iapply (recvC 8 (by decide) (ck 1 2 c) rfl rfl (by decide)) $$ HR HL R1 HO
  iintro ⟨Q1, Z1, HO⟩
  iapply (wp_load_held (ck 1 2 c) (off13_at c 2) (Finset.Subset.refl _)) $$ Q1
  iintro Q1
  iapply (wp_load_held (ck 1 2 c) (off13_at c 2) (Finset.Subset.refl _)) $$ Q1
  iintro Q1
  iapply (wp_store_held (g' := RR m c) (ck 1 2 c) (off13_at c 2) (scaleR _)) $$ Q1
  iintro Q1
  iapply (outR 9 1 2 rfl (off15_at c 2) (off14_at c 2)) $$ Q1 O1 L1
  iintro Q1
  iapply wp_done
  iapply Hk $$ Q0 Z1 Q1 HO

/-- The fourth chunk across x arrives, is scaled and written out. -/
theorem part22 {Q : _ → sProp 𝕄} :
    records m K ⊢ iprop(levAts L lv -∗ Rcv 9 c -∗ Owes c [] -∗ oAny c (hRem c + ck 1 3 c) 256 -∗ Zl c 10
      -∗ (Zr 9 c -∗ FlyR m c 10 (ck 1 3 c) -∗ Owes c [] -∗ Q ⟨⟩)
      -∗ WP c (k0_part22 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6 u7 (inv m c) u8) Q) := by
  rw [k0_part22_eq_skeleton]
  unfold k0_part22_skel
  simp only [Prog.lift, Prog.bind_op, Prog.bind_ret, Prog.pure_eq_ret]
  iintro #HR #HL R1 HO O1 L1 Hk
  iapply (recvC 9 (by decide) (ck 1 3 c) rfl rfl (by decide)) $$ HR HL R1 HO
  iintro ⟨Q1, Z1, HO⟩
  iapply (wp_load_held (ck 1 3 c) (off13_at c 3) (Finset.Subset.refl _)) $$ Q1
  iintro Q1
  iapply (wp_load_held (ck 1 3 c) (off13_at c 3) (Finset.Subset.refl _)) $$ Q1
  iintro Q1
  iapply (wp_store_held (g' := RR m c) (ck 1 3 c) (off13_at c 3) (scaleR _)) $$ Q1
  iintro Q1
  iapply (outR 10 1 3 rfl (off15_at c 3) (off14_at c 3)) $$ Q1 O1 L1
  iintro Q1
  iapply wp_done
  iapply Hk $$ Z1 Q1 HO

/-- The third chunk across z arrives, is scaled and written out; the fourth one arrives and is read. -/
theorem part23 {Q : _ → sProp 𝕄} :
    records m K ⊢ iprop(levAts L lv -∗ Rcv 14 c -∗ Rcv 15 c -∗ Owes c [] -∗ oAny c (hRem c + ck 2 2 c) 256 -∗ Zl c 11
      -∗ (∀ b, Zr 14 c -∗ FlyR m c 11 (ck 2 2 c) -∗ Zr 15 c -∗ rHas m c (ck 2 3 c) 256 fullShare -∗ Owes c []
        -∗ Q ⟨b, k0_pay39 (inv m c) (colBlock (R m c) (ck 2 3 c) 256)⟩)
      -∗ WP c (k0_part23 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 (inv m c) u6) Q) := by
  rw [k0_part23_eq_skeleton]
  unfold k0_part23_skel
  simp only [Prog.lift, Prog.bind_op, Prog.bind_ret, Prog.pure_eq_ret]
  iintro #HR #HL R0 R1 HO O0 L0 Hk
  iapply (recvC 14 (by decide) (ck 2 2 c) rfl rfl (by decide)) $$ HR HL R0 HO
  iintro ⟨Q0, Z0, HO⟩
  iapply (wp_load_held (ck 2 2 c) (off16_at c 2) (Finset.Subset.refl _)) $$ Q0
  iintro Q0
  iapply (wp_load_held (ck 2 2 c) (off16_at c 2) (Finset.Subset.refl _)) $$ Q0
  iintro Q0
  iapply (wp_store_held (g' := RR m c) (ck 2 2 c) (off16_at c 2) (scaleR _)) $$ Q0
  iintro Q0
  iapply (outR 11 2 2 rfl (off11_at c 2) (off17_at c 2)) $$ Q0 O0 L0
  iintro Q0
  iapply (recvC 15 (by decide) (ck 2 3 c) rfl rfl (by decide)) $$ HR HL R1 HO
  iintro ⟨Q1, Z1, HO⟩
  iapply (wp_load_held (ck 2 3 c) (off16_at c 3) (Finset.Subset.refl _)) $$ Q1
  iintro Q1
  iapply wp_done
  iapply Hk $$ %_ Z0 Q0 Z1 Q1 HO

/-- The fourth chunk across z is scaled and written out, and so is the first chunk sent on across x. -/
theorem part24 {Q : _ → sProp 𝕄} :
    records m K ⊢ iprop(levAts L lv -∗ rHas m c (ck 2 3 c) 256 fullShare -∗ oAny c (hRem c + ck 2 3 c) 256 -∗ Zl c 12
      -∗ Rcv 10 c -∗ Owes c [] -∗ oAny c (hRem c + ck 3 0 c) 256 -∗ Zl c 13
      -∗ (FlyR m c 12 (ck 2 3 c) -∗ Zr 10 c -∗ FlyR m c 13 (ck 3 0 c) -∗ Owes c [] -∗ Q ⟨⟩)
      -∗ WP c (k0_part24 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 (inv m c) u6 u7 (k0_pay39 (inv m c) (colBlock (R m c) (ck 2 3 c) 256))) Q) := by
  rw [k0_part24_eq_skeleton]
  unfold k0_part24_skel
  simp only [Prog.lift, Prog.bind_op, Prog.bind_ret, Prog.pure_eq_ret]
  iintro #HR #HL Q0 O0 L0 R1 HO O1 L1 Hk
  iapply (wp_load_held (ck 2 3 c) (off16_at c 3) (Finset.Subset.refl _)) $$ Q0
  iintro Q0
  iapply (wp_store_held (g' := RR m c) (ck 2 3 c) (off16_at c 3) (scaleR _)) $$ Q0
  iintro Q0
  iapply (outR 12 2 3 rfl (off11_at c 3) (off17_at c 3)) $$ Q0 O0 L0
  iintro Q0
  iapply (recvC 10 (by decide) (ck 3 0 c) rfl rfl (by decide)) $$ HR HL R1 HO
  iintro ⟨Q1, Z1, HO⟩
  iapply (wp_load_held (ck 3 0 c) (off18_at c 0) (Finset.Subset.refl _)) $$ Q1
  iintro Q1
  iapply (wp_load_held (ck 3 0 c) (off18_at c 0) (Finset.Subset.refl _)) $$ Q1
  iintro Q1
  iapply (wp_store_held (g' := RR m c) (ck 3 0 c) (off18_at c 0) (scaleR _)) $$ Q1
  iintro Q1
  iapply (outR 13 3 0 rfl (off7_at c 0) (off19_at c 0)) $$ Q1 O1 L1
  iintro Q1
  iapply wp_done
  iapply Hk $$ Q0 Z1 Q1 HO

end Parts

end Cert.KernelIdeal.K

end
-- ==== Proof.Parts4.lean ====
/-
The last pieces of the body: the quarter that came straight or across x and z, the chunks sent on, and the waits for the result.
-/
module

public import proofs.«01_k».proof.Proof.Parts3

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

section Parts
variable {m : (ℓ : Loc nD τ sig) → Buf (Elt F) ℓ} {K : Dev nD × Cell → ℕ} {c : Dev nD}
variable {h0 : (xH : Memref sig .tc .hbm S256x512 .f32).IsWhole} {h1 : (wH : Memref sig .tc .hbm S512x4096 .f32).IsWhole}
  {h2 : (oH : Memref sig .tc .hbm S256x8192 .bf16).IsWhole} {h3 : (xM : Memref sig .tc .vmem S256x512 .f32).IsWhole}
  {h4 : (wM : Memref sig .tc .vmem S2x512x1024 .f32).IsWhole} {h5 : (sM : Memref sig .tc .vmem S256x4096 .bf16).IsWhole}
  {h6 : (rM : Memref sig .tc .vmem S256x4096 .bf16).IsWhole} {h7 : (aM : Memref sig .tc .vmem S256x128 .bf16).IsWhole}
  {h8 : (bM : Memref sig .tc .vmem S256x128 .bf16).IsWhole} {u1 u2 u3 u4 u5 u6 u7 u8 u9 : BitVec 32} {ks : List (Fin 17)}

/-- The third chunk of the far quarter arrives, is scaled and written out. -/
theorem part25 {Q : _ → sProp 𝕄} :
    records m K ⊢ iprop(levAts L lv -∗ Rcv 4 c -∗ Owes c [] -∗ oAny c (hRem c + ck 3 2 c) 256 -∗ Zl c 15
      -∗ (Zr 4 c -∗ FlyR m c 15 (ck 3 2 c) -∗ Owes c [] -∗ Q ⟨⟩)
      -∗ WP c (k0_part25 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 u5 u6 u7 (inv m c) u8) Q) := by
  rw [k0_part25_eq_skeleton]
  unfold k0_part25_skel
  simp only [Prog.lift, Prog.bind_op, Prog.bind_ret, Prog.pure_eq_ret]
  iintro #HR #HL R1 HO O1 L1 Hk
  iapply (recvC 4 (by decide) (ck 3 2 c) rfl rfl (by decide)) $$ HR HL R1 HO
  iintro ⟨Q1, Z1, HO⟩
  iapply (wp_load_held (ck 3 2 c) (off18_at c 2) (Finset.Subset.refl _)) $$ Q1
  iintro Q1
  iapply (wp_load_held (ck 3 2 c) (off18_at c 2) (Finset.Subset.refl _)) $$ Q1
  iintro Q1
  iapply (wp_store_held (g' := RR m c) (ck 3 2 c) (off18_at c 2) (scaleR _)) $$ Q1
  iintro Q1
  iapply (outR 15 3 2 rfl (off7_at c 2) (off19_at c 2)) $$ Q1 O1 L1
  iintro Q1
  iapply wp_done
  iapply Hk $$ Z1 Q1 HO

/-- The second chunk of the far quarter arrives, is scaled and written out; the fourth one arrives and is read. -/
theorem part26 {Q : _ → sProp 𝕄} :
    records m K ⊢ iprop(levAts L lv -∗ Rcv 11 c -∗ Rcv 5 c -∗ Owes c [] -∗ oAny c (hRem c + ck 3 1 c) 256 -∗ Zl c 14
      -∗ (∀ b, Zr 11 c -∗ FlyR m c 14 (ck 3 1 c) -∗ Zr 5 c -∗ rHas m c (ck 3 3 c) 256 fullShare -∗ Owes c []
        -∗ Q ⟨b, k0_pay44 (inv m c) (colBlock (R m c) (ck 3 3 c) 256)⟩)
      -∗ WP c (k0_part26 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 u4 (inv m c) u5) Q) := by
  rw [k0_part26_eq_skeleton]
  unfold k0_part26_skel
  simp only [Prog.lift, Prog.bind_op, Prog.bind_ret, Prog.pure_eq_ret]
  iintro #HR #HL R0 R1 HO O0 L0 Hk
  iapply (recvC 11 (by decide) (ck 3 1 c) rfl rfl (by decide)) $$ HR HL R0 HO
  iintro ⟨Q0, Z0, HO⟩
  iapply (wp_load_held (ck 3 1 c) (off18_at c 1) (Finset.Subset.refl _)) $$ Q0
  iintro Q0
  iapply (wp_load_held (ck 3 1 c) (off18_at c 1) (Finset.Subset.refl _)) $$ Q0
  iintro Q0
  iapply (wp_store_held (g' := RR m c) (ck 3 1 c) (off18_at c 1) (scaleR _)) $$ Q0
  iintro Q0
  iapply (outR 14 3 1 rfl (off7_at c 1) (off19_at c 1)) $$ Q0 O0 L0
  iintro Q0
  iapply (recvC 5 (by decide) (ck 3 3 c) rfl rfl (by decide)) $$ HR HL R1 HO
  iintro ⟨Q1, Z1, HO⟩
  iapply (wp_load_held (ck 3 3 c) (off18_at c 3) (Finset.Subset.refl _)) $$ Q1
  iintro Q1
  iapply wp_done
  iapply Hk $$ %_ Z0 Q0 Z1 Q1 HO

/-- The fourth chunk of the far quarter is scaled and written out; the first departures of what was sent on are waited for. -/
theorem part27 {Q : _ → sProp 𝕄} :
    records m K ⊢ iprop(rHas m c (ck 3 3 c) 256 fullShare -∗ oAny c (hRem c + ck 3 3 c) 256 -∗ Zl c 16
      -∗ Sent 6 c -∗ Sent 12 c -∗ Sent 7 c -∗ Owes c []
      -∗ (FlyR m c 16 (ck 3 3 c) -∗ sendPay m 6 c -∗ sendPay m 12 c -∗ sendPay m 7 c -∗ (Zs 6 c ∗ Zs 12 c ∗ Zs 7 c) -∗ Owes c [] -∗ Q ⟨⟩)
      -∗ WP c (k0_part27 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 u3 (k0_pay44 (inv m c) (colBlock (R m c) (ck 3 3 c) 256))) Q) := by
  rw [k0_part27_eq_skeleton]
  unfold k0_part27_skel
  simp only [Prog.lift, Prog.bind_op, Prog.bind_ret, Prog.pure_eq_ret]
  iintro #HR Q0 O0 L0 H6 H12 H7 HO Hk
  iapply (wp_load_held (ck 3 3 c) (off18_at c 3) (Finset.Subset.refl _)) $$ Q0
  iintro Q0
  iapply (wp_store_held (g' := RR m c) (ck 3 3 c) (off18_at c 3) (scaleR _)) $$ Q0
  iintro Q0
  iapply (outR 16 3 3 rfl (off7_at c 3) (off19_at c 3)) $$ Q0 O0 L0
  iintro Q0
  iapply (backR 6 (by decide) rfl) $$ HR H6 HO
  iintro ⟨H6, Z6, HO⟩
  iapply (backR 12 (by decide) rfl) $$ HR H12 HO
  iintro ⟨H12, Z12, HO⟩
  iapply (backR 7 (by decide) rfl) $$ HR H7 HO
  iintro ⟨H7, Z7, HO⟩
  iapply wp_done
  iapply Hk $$ Q0 H6 H12 H7 [Z6 Z12 Z7] HO
  isplitl [Z6]; · iexact Z6
  isplitl [Z12]; · iexact Z12
  iexact Z7

/-- The other departures to both neighbours are waited for; the owned quarter of the receive buffer is whole again, and read. -/
theorem part28 {Q : _ → sProp 𝕄} :
    records m K ⊢ iprop(Sent 13 c -∗ Sent 8 c -∗ Sent 14 c -∗ Sent 9 c -∗ Sent 15 c -∗ Owes c []
      -∗ sendPay m 6 c -∗ sendPay m 12 c -∗ sendPay m 7 c
      -∗ (rHas m c (qo 0 c) 1024 fullShare -∗ (Zs 13 c ∗ Zs 8 c ∗ Zs 14 c ∗ Zs 9 c ∗ Zs 15 c) -∗ Owes c []
        -∗ Q (k0_pay46 (inv m c) (colBlock (R m c) (qo 0 c) 1024)))
      -∗ WP c (k0_part28 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 (inv m c)) Q) := by
  rw [k0_part28_eq_skeleton]
  unfold k0_part28_skel
  simp only [Prog.lift, Prog.bind_op, Prog.bind_ret, Prog.pure_eq_ret]
  iintro #HR H13 H8 H14 H9 H15 HO H6 H12 H7 Hk
  iapply (backR 13 (by decide) rfl) $$ HR H13 HO
  iintro ⟨H13, Z13, HO⟩
  iapply (backR 8 (by decide) rfl) $$ HR H8 HO
  iintro ⟨H8, Z8, HO⟩
  iapply (backR 14 (by decide) rfl) $$ HR H14 HO
  iintro ⟨H14, Z14, HO⟩
  iapply (backR 9 (by decide) rfl) $$ HR H9 HO
  iintro ⟨H9, Z9, HO⟩
  iapply (backR 15 (by decide) rfl) $$ HR H15 HO
  iintro ⟨H15, Z15, HO⟩
  ihave H := mergeR $$ H6 H12 H7 H13 H8 H14 H9 H15
  iapply (wp_load_held (qo 0 c) (off20_at c) (Finset.Subset.refl _)) $$ H
  iintro H
  iapply (wp_load_held (qo 0 c) (off20_at c) (Finset.Subset.refl _)) $$ H
  iintro H
  iapply wp_done
  iapply Hk $$ H [Z13 Z8 Z14 Z9 Z15] HO
  isplitl [Z13]; · iexact Z13
  isplitl [Z8]; · iexact Z8
  isplitl [Z14]; · iexact Z14
  isplitl [Z9]; · iexact Z9
  iexact Z15

/-- The owned quarter is scaled and written out; the two chunks sent on twice are back, and the first one is scaled and written out. -/
theorem part29 {Q : _ → sProp 𝕄} :
    records m K ⊢ iprop(rHas m c (qo 0 c) 1024 fullShare -∗ oAny c (hRem c + qo 0 c) 1024 -∗ Zl c 17
      -∗ Sent 10 c -∗ Sent 11 c -∗ Owes c [] -∗ oAny c (hRem c + ck 2 0 c) 256 -∗ Zl c 18
      -∗ (∀ b, FlyG m c 17 (qo 0 c) -∗ (Zs 10 c ∗ Zs 11 c) -∗ FlyR m c 18 (ck 2 0 c) -∗ rHas m c (ck 2 1 c) 256 fullShare -∗ Owes c [] -∗ Q b)
      -∗ WP c (k0_part29 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 u2 (inv m c) u3 (k0_pay46 (inv m c) (colBlock (R m c) (qo 0 c) 1024))) Q) := by
  rw [k0_part29_eq_skeleton]
  unfold k0_part29_skel
  simp only [Prog.lift, Prog.bind_op, Prog.bind_ret, Prog.pure_eq_ret]
  iintro #HR H O0 L0 H10 H11 HO O1 L1 Hk
  iapply (wp_store_held (g' := RR m c) (qo 0 c) (off20_at c) (scaleG _)) $$ H
  iintro H
  iapply (outG 17 0 rfl (off22_at c) (off21_at c)) $$ H O0 L0
  iintro H
  iapply (backR 10 (by decide) rfl) $$ HR H10 HO
  iintro ⟨H10, Z10, HO⟩
  iapply (backR 11 (by decide) rfl) $$ HR H11 HO
  iintro ⟨H11, Z11, HO⟩
  ihave Q0 := (Entails.of_eq (show sendPay m 10 c = rHas m c (ck 2 0 c) 256 fullShare from rfl)) $$ H10
  ihave Q1 := (Entails.of_eq (show sendPay m 11 c = rHas m c (ck 2 1 c) 256 fullShare from rfl)) $$ H11
  iapply (wp_load_held (ck 2 0 c) (off16_at c 0) (Finset.Subset.refl _)) $$ Q0
  iintro Q0
  iapply (wp_load_held (ck 2 0 c) (off16_at c 0) (Finset.Subset.refl _)) $$ Q0
  iintro Q0
  iapply (wp_store_held (g' := RR m c) (ck 2 0 c) (off16_at c 0) (scaleR _)) $$ Q0
  iintro Q0
  iapply (outR 18 2 0 rfl (off11_at c 0) (off17_at c 0)) $$ Q0 O1 L1
  iintro Q0
  iapply wp_done
  iapply Hk $$ %_ H [Z10 Z11] Q0 Q1 HO
  isplitl [Z10]; · iexact Z10
  iexact Z11

/-- The second one is scaled and written out; the quarters of the send buffer are in the result. -/
theorem part30 {Q : _ → sProp 𝕄} {D0 D1 D2 D3 : sProp 𝕄} :
    levAts L lv ⊢ iprop(rHas m c (ck 2 1 c) 256 fullShare -∗ oAny c (hRem c + ck 2 1 c) 256 -∗ Zl c 19
      -∗ Fly c (.dma (sL 3)) NOq D0 -∗ Fly c (.dma (sL 4)) NOq D1 -∗ Fly c (.dma (sL 5)) NOq D2 -∗ Fly c (.dma (sL 6)) NOq D3 -∗ Owes c []
      -∗ (FlyR m c 19 (ck 2 1 c) -∗ (D0 ∗ D1 ∗ D2 ∗ D3) -∗ (Zl c 3 ∗ Zl c 4 ∗ Zl c 5 ∗ Zl c 6) -∗ Owes c [] -∗ Q ⟨⟩)
      -∗ WP c (k0_part30 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c u1 (inv m c) u2 u3) Q) := by
  rw [k0_part30_eq_skeleton]
  unfold k0_part30_skel
  simp only [Prog.lift, Prog.bind_op, Prog.bind_ret, Prog.pure_eq_ret]
  iintro #HL Q0 O0 L0 F0 F1 F2 F3 HO Hk
  iapply (wp_load_held (ck 2 1 c) (off16_at c 1) (Finset.Subset.refl _)) $$ Q0
  iintro Q0
  iapply (wp_load_held (ck 2 1 c) (off16_at c 1) (Finset.Subset.refl _)) $$ Q0
  iintro Q0
  iapply (wp_store_held (g' := RR m c) (ck 2 1 c) (off16_at c 1) (scaleR _)) $$ Q0
  iintro Q0
  iapply (outR 19 2 1 rfl (off11_at c 1) (off17_at c 1)) $$ Q0 O0 L0
  iintro Q0
  iapply (landOq 3 rfl) $$ HL F0 HO
  iintro ⟨D0, Z0, HO⟩
  iapply (landOq 4 rfl) $$ HL F1 HO
  iintro ⟨D1, Z1, HO⟩
  iapply (landOq 5 rfl) $$ HL F2 HO
  iintro ⟨D2, Z2, HO⟩
  iapply (landOq 6 rfl) $$ HL F3 HO
  iintro ⟨D3, Z3, HO⟩
  iapply wp_done
  iapply Hk $$ Q0 [D0 D1 D2 D3] [Z0 Z1 Z2 Z3] HO
  · isplitl [D0]; · iexact D0
    isplitl [D1]; · iexact D1
    isplitl [D2]; · iexact D2
    iexact D3
  · isplitl [Z0]; · iexact Z0
    isplitl [Z1]; · iexact Z1
    isplitl [Z2]; · iexact Z2
    iexact Z3

/-- Seven chunks of the receive buffer are in the result. -/
theorem part31 {Q : _ → sProp 𝕄} {D0 D1 D2 D3 D4 D5 D6 : sProp 𝕄} :
    levAts L lv ⊢ iprop(Fly c (.dma (sL 7)) NOc D0 -∗ Fly c (.dma (sL 8)) NOc D1 -∗ Fly c (.dma (sL 9)) NOc D2 -∗ Fly c (.dma (sL 10)) NOc D3
      -∗ Fly c (.dma (sL 11)) NOc D4 -∗ Fly c (.dma (sL 12)) NOc D5 -∗ Fly c (.dma (sL 13)) NOc D6 -∗ Owes c []
      -∗ ((D0 ∗ D1 ∗ D2 ∗ D3 ∗ D4 ∗ D5 ∗ D6) -∗ (Zl c 7 ∗ Zl c 8 ∗ Zl c 9 ∗ Zl c 10 ∗ Zl c 11 ∗ Zl c 12 ∗ Zl c 13) -∗ Owes c [] -∗ Q ⟨⟩)
      -∗ WP c (k0_part31 xH h0 wH h1 oH h2 xM h3 wM h4 sM h5 rM h6 aM h7 bM h8 cc0_scratch6 cc0_scratch7 cc0_scratch8 cc0_scratch9 cc0_scratch10
        cc0_scratch11 cc0_scratch12 cc0_scratch13 cc0_scratch14 cc0_scratch15 c) Q) := by
  rw [k0_part31_eq_skeleton]
  unfold k0_part31_skel
  simp only [Prog.lift, Prog.bind_op, Prog.bind_ret, Prog.pure_eq_ret]
  iintro #HL F0 F1 F2 F3 F4 F5 F6 HO Hk
  iapply (landOc 7 rfl) $$ HL F0 HO
  iintro ⟨D0, Z0, HO⟩
  iapply (landOc 8 rfl) $$ HL F1 HO
  iintro ⟨D1, Z1, HO⟩
  iapply (landOc 9 rfl) $$ HL F2 HO
  iintro ⟨D2, Z2, HO⟩
  iapply (landOc 10 rfl) $$ HL F3 HO
  iintro ⟨D3, Z3, HO⟩
  iapply (landOc 11 rfl) $$ HL F4 HO
  iintro ⟨D4, Z4, HO⟩
  iapply (landOc 12 rfl) $$ HL F5 HO
  iintro ⟨D5, Z5, HO⟩
  iapply (landOc 13 rfl) $$ HL F6 HO
  iintro ⟨D6, Z6, HO⟩
  iapply wp_done
  iapply Hk $$ [D0 D1 D2 D3 D4 D5 D6] [Z0 Z1 Z2 Z3 Z4 Z5 Z6] HO
  · isplitl [D0]; · iexact D0
    isplitl [D1]; · iexact D1
    isplitl [D2]; · iexact D2
    isplitl [D3]; · iexact D3
    isplitl [D4]; · iexact D4
    isplitl [D5]; · iexact D5
    iexact D6
  · isplitl [Z0]; · iexact Z0
    isplitl [Z1]; · iexact Z1
    isplitl [Z2]; · iexact Z2
    isplitl [Z3]; · iexact Z3
    isplitl [Z4]; · iexact Z4
    isplitl [Z5]; · iexact Z5
    iexact Z6

end Parts

end Cert.KernelIdeal.K

end
-- ==== Proof.Body.lean ====
/-
The whole body on one device: the pieces one after the other.
-/
module

public import proofs.«01_k».proof.Proof.Parts0
public import proofs.«01_k».proof.Proof.Parts4

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

theorem wp_seq {α β : Type} {c : Dev nD} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (Idealize.SL.Sem.wp_bind ..).symm

section Body
variable (m : (ℓ : Loc nD τ sig) → Buf (Elt F) ℓ) (K : Dev nD × Cell → ℕ) (c : Dev nD)

/-- The transfers' shares of the start and of the end. -/
abbrev each17 (P : Fin 17 → sProp 𝕄) : sProp 𝕄 :=
  iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16)
abbrev each20 (P : Fin 20 → sProp 𝕄) : sProp 𝕄 :=
  iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16 ∗ P 17 ∗ P 18 ∗ P 19)
/-- The columns of the weights and of the send buffer the body works on: the chunks of the owned quarter, and the other quarters. -/
abbrev seven (P : ℕ → ℕ → sProp 𝕄) : sProp 𝕄 :=
  iprop(P (ck 0 0 c) 256 ∗ P (ck 0 1 c) 256 ∗ P (ck 0 2 c) 256 ∗ P (ck 0 3 c) 256 ∗ P (qo 1 c) 1024 ∗ P (qo 2 c) 1024 ∗ P (qo 3 c) 1024)
abbrev four (P : ℕ → ℕ → sProp 𝕄) : sProp 𝕄 := iprop(P 0 1024 ∗ P 1024 1024 ∗ P 2048 1024 ∗ P 3072 1024)
abbrev thirteen (P : ℕ → ℕ → sProp 𝕄) : sProp 𝕄 :=
  iprop(P (qo 0 c) 1024 ∗ P (ck 1 0 c) 256 ∗ P (ck 1 1 c) 256 ∗ P (ck 1 2 c) 256 ∗ P (ck 1 3 c) 256
    ∗ P (ck 2 0 c) 256 ∗ P (ck 2 1 c) 256 ∗ P (ck 2 2 c) 256 ∗ P (ck 2 3 c) 256
    ∗ P (ck 3 0 c) 256 ∗ P (ck 3 1 c) 256 ∗ P (ck 3 2 c) 256 ∗ P (ck 3 3 c) 256)

/-- What the body starts from. -/
def bodyStart : sProp 𝕄 :=
  iprop(records m K ∗ levAts L lv
    ∗ held xH c 0 512 fullShare (X m c) ∗ (∃ g, held xM c 0 512 fullShare g)
    ∗ seven c (fun l w => held wH c l w fullShare (Wt m c)) ∗ slotAny c 0 ∗ slotAny c 1
    ∗ seven c (sAny c) ∗ (∃ g, held aM c 0 128 fullShare g)
    ∗ four (fun l w => oAny c (hOwn c + l) w) ∗ thirteen c (fun l w => oAny c (hRem c + l) w)
    ∗ (dutyTok ER (barCell (nb 0 c)) 0 0 ∗ dutyTok ER (barCell (nb 1 c)) 0 1 ∗ dutyTok ER (barCell (nb 2 c)) 0 2)
    ∗ (barPay (nb 0 c) 0 ∗ barPay (nb 1 c) 1 ∗ barPay (nb 2 c) 2)
    ∗ (∃ W, owes (c : Thread nD τ) (O₀ c) W) ∗ cred (tallyAt (barCell c) () 3) ∗ atPos ER (barCell c) 0 ∅ 0
    ∗ each17 (fun k => Kit k c) ∗ each17 (fun k => Rcv k c) ∗ each20 (Zl c))

/-- What it ends with. -/
def bodyEnd : sProp 𝕄 :=
  iprop(held xH c 0 512 fullShare (X m c) ∗ held xM c 0 512 fullShare (X m c)
    ∗ seven c (fun l w => held wH c l w fullShare (Wt m c)) ∗ slotAny c 0 ∗ slotAny c 1
    ∗ four (fun l w => oHas m c (hOwn c + l) w) ∗ four (sDone m c)
    ∗ thirteen c (fun l w => oHas m c (hRem c + l) w) ∗ thirteen c (rDone m c)
    ∗ held aM c 0 128 fullShare (st m c) ∗ held bM c 0 128 fullShare (st m (py c))
    ∗ Owes c [] ∗ Zb c ∗ each17 (fun k => Zs k c) ∗ each17 (fun k => Zr k c) ∗ each20 (Zl c))

set_option maxHeartbeats 4000000 in
theorem sound (Q : PUnit → sProp 𝕄) :
    bodyStart m K c ⊢ iprop((bodyEnd m c -∗ Q ⟨⟩)
      -∗ WP c (cc0_body xH (Memref.isWhole_whole _) wH (Memref.isWhole_whole _) oH (Memref.isWhole_whole _) xM (Memref.isWhole_whole _)
          wM (Memref.isWhole_whole _) sM (Memref.isWhole_whole _) rM (Memref.isWhole_whole _) aM (Memref.isWhole_whole _) bM (Memref.isWhole_whole _)
          cc0_scratch6 cc0_scratch7 cc0_scratch8 cc0_scratch9 cc0_scratch10 cc0_scratch11 cc0_scratch12 cc0_scratch13 cc0_scratch14 cc0_scratch15) Q) := by
  rw [cc0_body_eq_skeleton]
  unfold cc0_body_skel
  rw [k0_part32_eq_skeleton]
  unfold k0_part32_skel bodyStart
  iintro ⟨#HR, #HL, Hx, ⟨%gx, Hm⟩, ⟨Wc0, Wc1, Wc2, Wc3, Wq1, Wq2, Wq3⟩, A0, A1, ⟨S0, S1, S2, S3, Sq1, Sq2, Sq3⟩, Ha,
    ⟨Oo0, Oo1, Oo2, Oo3⟩, ⟨Og, O10, O11, O12, O13, O20, O21, O22, O23, O30, O31, O32, O33⟩, ⟨T0, T1, T2⟩, ⟨B0, B1, B2⟩, HO, Hc, Hat,
    ⟨K0, K1, K2, K3, K4, K5, K6, K7, K8, K9, K10, K11, K12, K13, K14, K15, K16⟩,
    ⟨R0, R1, R2, R3, R4, R5, R6, R7, R8, R9, R10, R11, R12, R13, R14, R15, R16⟩,
    ⟨L0, L1, L2, L3, L4, L5, L6, L7, L8, L9, L10, L11, L12, L13, L14, L15, L16, L17, L18, L19⟩⟩ Hk
  iapply wp_seq
  iapply wp_seq
  iapply part1 $$ Hx Hm L0
  iintro %b1 %b2 %b3 %b4 %b5 %b6 %b7 %b8 %b9 %b10 %b11 %b12 %b13 %b14 Hx
  iapply wp_seq
  iapply part2 $$ HR HL Wc0 A0 L1 T0 T1 T2 B0 B1 B2 HO Hc Hat Hx
  iintro F ⟨B0, B1, B2⟩ Zb Hm Hx L0 HO
  iapply wp_seq
  ihave HO := (Entails.of_eq (show Owes c allK = (Owes c [0, 1, 2, 3, 4, 5, 6, 12, 7, 13, 8, 14, 16, 9, 15, 10, 11] : sProp 𝕄) from rfl)) $$ HO
  ihave B0 := (Entails.of_eq (show barPay c 0 = (iprop(dst 0 c ∗ dst 1 c ∗ dst 2 c ∗ dst 3 c ∗ dst 4 c ∗ dst 5 c ∗ dst 16 c) : sProp 𝕄) from rfl)) $$ B0
  icases B0 with ⟨D0, D1, D2, D3, D4, D5, D16⟩
  ihave B1 := (Entails.of_eq (show barPay c 1 = (iprop(dst 6 c ∗ dst 7 c ∗ dst 8 c ∗ dst 9 c ∗ dst 10 c ∗ dst 11 c) : sProp 𝕄) from rfl)) $$ B1
  icases B1 with ⟨D6, D7, D8, D9, D10, D11⟩
  ihave B2 := (Entails.of_eq (show barPay c 2 = (iprop(dst 12 c ∗ dst 13 c ∗ dst 14 c ∗ dst 15 c) : sProp 𝕄) from rfl)) $$ B2
  icases B2 with ⟨D12, D13, D14, D15⟩
  iapply part3 $$ HR HL F Wc1 A1 L2 S0 D0 K0 HO
  iintro Wc0 A0 L1 F N0 HO
  iapply wp_seq
  iapply part4 $$ HL F Wc2 A0 L1 S1 HO
  iintro Wc1 A1 L2 F S1 HO
  iapply wp_seq
  iapply part5 $$ HR HL S1 D1 K1 HO F Wc3 A1 L2 S2
  iintro N1 Wc2 A0 L1 F S2 HO
  iapply wp_seq
  iapply part6 $$ HR HL S2 D2 K2 HO F Wq3 A0 L1 S3
  iintro %b15 %b16 N2 Wc3 A1 L2 F S3 HO
  iapply wp_seq
  iapply part7 $$ HR HL S3 D3 K3 HO F Wq1 A1 L2 Sq3
  iintro %b17 N3 Wq3 A0 L1 F Sq3 HO
  iapply wp_seq
  ihave Sq3 := (held_split (qo 3 c) 768 256) $$ Sq3
  icases Sq3 with ⟨Sq3, S33⟩
  ihave Sq3 := (held_split (qo 3 c) 512 256) $$ Sq3
  icases Sq3 with ⟨Sq3, S32⟩
  ihave S32 := (Entails.of_eq (show held sM c (qo 3 c + 512) 256 fullShare (S m c) = sHas m c (ck 3 2 c) 256 from rfl)) $$ S32
  ihave S33 := (Entails.of_eq (show held sM c (qo 3 c + 768) 256 fullShare (S m c) = sHas m c (ck 3 3 c) 256 from rfl)) $$ S33
  iapply part8 $$ HR S32 S33 D4 D5 K4 K5 HO
  iintro N4 N5 HO
  iapply wp_seq
  iapply part9 $$ HR HL R0 D6 D12 K6 K12 HO
  iintro Zr0 N6 N12 HO
  iapply wp_seq
  iapply part10 $$ HR HL F Wq2 A0 L1 Sq1 R1 HO
  iintro %b18 Wq1 A1 L2 F Sq1 R1 Zr1 HO
  iapply wp_seq
  iapply part11 $$ HR HL R1 D7 D13 K7 K13 HO F
  iintro N7 N13 Wq2 A0 L1 HO
  iapply wp_seq
  iapply part12 $$ HR HL Sq2 R2 D8 K8 HO
  iintro Sq2 Zr2 N8 R2 HO
  iapply wp_seq
  iapply part13 $$ HR R2 D14 K14 Ha D16 K16 HO
  iintro N14 N16 HO
  iapply wp_seq
  iapply part14 $$ HR HL R3 D9 D15 K9 K15 HO
  iintro %b19 Zr3 N9 N15 HO
  iapply wp_seq
  iapply part15 $$ HR HL R12 D10 K10 R13 HO
  iintro Zr12 N10 R21 Zr13 HO
  iapply wp_seq
  iapply part16 $$ HR HL R21 D11 K11 R16 HO
  iintro %b20 %b21 N11 Hb Zr16 HO
  iapply wp_seq
  iapply part17 $$ HR N0 N1 N2 N3 N4 HO
  iintro P0 P1 P2 P3 P4 ⟨Zs0, Zs1, Zs2, Zs3, Zs4⟩ HO
  ihave Sq0 := mergeS0 $$ P0 P1 P2 P3
  iapply wp_seq
  iapply part18 $$ HR N5 N16 HO Sq0 Sq1 Sq2 Sq3 P4 Oo0 L3 Oo1 L4
  iintro Zs5 Ha Zs16 F3 F4 S2 S3 HO
  iapply wp_seq
  iapply part19 $$ S2 S3 Oo2 L5 Oo3 L6
  iintro F5 F6
  iapply wp_seq
  iapply part20 $$ HR HL R6 R7 HO O10 L7
  iintro %b22 Zr6 F7 Zr7 R7 HO
  iapply wp_seq
  iapply part21 $$ HR HL R7 O11 L8 R8 HO O12 L9
  iintro F8 Zr8 F9 HO
  iapply wp_seq
  iapply part22 $$ HR HL R9 HO O13 L10
  iintro Zr9 F10 HO
  iapply wp_seq
  iapply part23 $$ HR HL R14 R15 HO O22 L11
  iintro %b23 Zr14 F11 Zr15 R15 HO
  iapply wp_seq
  iapply part24 $$ HR HL R15 O23 L12 R10 HO O30 L13
  iintro F12 Zr10 F13 HO
  iapply wp_seq
  iapply part25 $$ HR HL R4 HO O32 L15
  iintro Zr4 F15 HO
  iapply wp_seq
  iapply part26 $$ HR HL R11 R5 HO O31 L14
  iintro %b24 Zr11 F14 Zr5 R5 HO
  iapply wp_seq
  iapply part27 $$ HR R5 O33 L16 N6 N12 N7 HO
  iintro F16 P6 P12 P7 ⟨Zs6, Zs12, Zs7⟩ HO
  iapply wp_seq
  iapply part28 $$ HR N13 N8 N14 N9 N15 HO P6 P12 P7
  iintro Rg ⟨Zs13, Zs8, Zs14, Zs9, Zs15⟩ HO
  iapply wp_seq
  iapply part29 $$ HR Rg Og L17 N10 N11 HO O20 L18
  iintro %b25 F17 ⟨Zs10, Zs11⟩ F18 R11 HO
  iapply wp_seq
  iapply part30 $$ HL R11 O21 L19 F3 F4 F5 F6 HO
  iintro F19 ⟨⟨Oo0, S0⟩, ⟨Oo1, S1⟩, ⟨Oo2, S2⟩, ⟨Oo3, S3⟩⟩ ⟨L3, L4, L5, L6⟩ HO
  iapply wp_seq
  iapply part31 $$ HL F7 F8 F9 F10 F11 F12 F13 HO
  iintro ⟨⟨O10, R10⟩, ⟨O11, R11⟩, ⟨O12, R12⟩, ⟨O13, R13⟩, ⟨O22, R22⟩, ⟨O23, R23⟩, ⟨O30, R30⟩⟩ ⟨L7, L8, L9, L10, L11, L12, L13⟩ HO
  iapply (landOc 15 rfl) $$ HL F15 HO
  iintro ⟨⟨O32, R32⟩, L15, HO⟩
  iapply (landOc 14 rfl) $$ HL F14 HO
  iintro ⟨⟨O31, R31⟩, L14, HO⟩
  iapply (landOc 16 rfl) $$ HL F16 HO
  iintro ⟨⟨O33, R33⟩, L16, HO⟩
  iapply (landOq 17 rfl) $$ HL F17 HO
  iintro ⟨⟨Og, Rg⟩, L17, HO⟩
  iapply wp_done
  iapply (landOc 18 rfl) $$ HL F18 HO
  iintro ⟨⟨O20, R20⟩, L18, HO⟩
  iapply (landOc 19 rfl) $$ HL F19 HO
  iintro ⟨⟨O21, R21⟩, L19, HO⟩
  iapply wp_done
  iapply Hk
  unfold bodyEnd seven four thirteen each17 each20
  ihave Ha := (Entails.of_eq (show sendPay m 16 c = held aM c 0 128 fullShare (st m c) from rfl)) $$ Ha
  iframe
end Body

end Cert.KernelIdeal.K

end
-- ==== Proof.Whole.lean ====
/-
A device's buffers, whole, cut into the columns its body starts from, and put together again from the columns it ends with.
-/
module

public import proofs.«01_k».proof.Proof.Body

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

section Cut
variable {R N : ℕ} {sp : Space} {e : EltTy} {mr : Memref sig .tc sp ⟨2, ![R, N]⟩ e} {d : Dev nD} {q : PosShare TreeShare} {g : Shape.Idx ⟨2, ![R, N]⟩ → Elt F e}

omit [FloatOps F] in
/-- A matrix held whole is all its columns held. -/
theorem held_of_whole (hw : mr.view.set = Finset.univ) (f : Buf (Elt F) (mr.view.loc (d : Thread nD τ))) :
    (mr.view.loc (d : Thread nD τ) ↦{q} f : sProp 𝕄) ⊢ held mr d 0 N q (mr.view.read (Elt F) f) := by
  unfold held heldOn
  rw [cols_univ, show mr.view.setOn Finset.univ = Finset.univ from hw]
  iintro H
  iexists f
  isplitl; · iexact H
  ipureintro; exact fun _ _ => rfl

omit [FloatOps F] in
theorem whole_of_held (hw : mr.view.set = Finset.univ) :
    (held mr d 0 N q g : sProp 𝕄) ⊢ iprop(∃ f : Buf (Elt F) (mr.view.loc (d : Thread nD τ)), (mr.view.loc (d : Thread nD τ) ↦{q} f) ∗ ⌜mr.view.read (Elt F) f = g⌝) := by
  unfold held heldOn
  rw [cols_univ, show mr.view.setOn Finset.univ = Finset.univ from hw]
  iintro ⟨%f, H, %hf⟩
  iexists f
  isplitl; · iexact H
  ipureintro; exact funext fun i => hf i (Finset.mem_univ i)

omit [FloatOps F] in
/-- Four quarters from column `b` on. -/
theorem half_split (b : ℕ) : (held mr d b 4096 q g : sProp 𝕄)
    ⊢ iprop(held mr d (b + 0) 1024 q g ∗ held mr d (b + 1024) 1024 q g ∗ held mr d (b + 2048) 1024 q g ∗ held mr d (b + 3072) 1024 q g) := by
  iintro H
  ihave H := (held_split b 3072 1024) $$ H
  icases H with ⟨H, H3⟩
  ihave H := (held_split b 2048 1024) $$ H
  icases H with ⟨H, H2⟩
  ihave H := (held_split b 1024 1024) $$ H
  icases H with ⟨H, H1⟩
  iframe

omit [FloatOps F] in
theorem half_join (b : ℕ) : iprop(held mr d (b + 0) 1024 q g ∗ held mr d (b + 1024) 1024 q g ∗ held mr d (b + 2048) 1024 q g ∗ held mr d (b + 3072) 1024 q g)
    ⊢ (held mr d b 4096 q g : sProp 𝕄) := by
  iintro ⟨H0, H1, H2, H3⟩
  ihave H := (held_join b 1024 1024) $$ H0 H1
  ihave H := (held_join b 2048 1024) $$ H H2
  iapply (held_join b 3072 1024) $$ H H3

omit [FloatOps F] in
/-- The four quarters by role. -/
theorem by_role (b : ℕ) (c : Dev nD) : (held mr d b 4096 q g : sProp 𝕄)
    ⊣⊢ iprop(held mr d (b + qo 0 c) 1024 q g ∗ held mr d (b + qo 1 c) 1024 q g ∗ held mr d (b + qo 2 c) 1024 q g ∗ held mr d (b + qo 3 c) 1024 q g) := by
  have h := roles_order c (fun l => (held mr d (b + l) 1024 q g : sProp 𝕄))
  exact ⟨(half_split b).trans (Entails.of_eq h.symm), (Entails.of_eq h).trans (half_join b)⟩

omit [FloatOps F] in
/-- A quarter of a half by chunks. -/
theorem by_chunk (b : ℕ) (r : Fin 4) (c : Dev nD) : (held mr d (b + qo r c) 1024 q g : sProp 𝕄)
    ⊣⊢ iprop(held mr d (b + ck r 0 c) 256 q g ∗ held mr d (b + ck r 1 c) 256 q g ∗ held mr d (b + ck r 2 c) 256 q g ∗ held mr d (b + ck r 3 c) 256 q g) := by
  have e0 : b + ck r 0 c = b + qo r c := rfl
  have e1 : b + ck r 1 c = b + qo r c + 256 := (Nat.add_assoc b (qo r c) 256).symm
  have e2 : b + ck r 2 c = b + qo r c + 512 := (Nat.add_assoc b (qo r c) 512).symm
  have e3 : b + ck r 3 c = b + qo r c + 768 := (Nat.add_assoc b (qo r c) 768).symm
  rw [e0, e1, e2, e3]
  constructor
  · exact held_quarter _
  · iintro ⟨H0, H1, H2, H3⟩
    iapply (held_chunks _) $$ H0 H1 H2 H3

omit [FloatOps F] in
/-- The owned quarter in chunks and the others whole. -/
theorem by_seven (c : Dev nD) : (held mr d 0 4096 q g : sProp 𝕄) ⊣⊢ seven c (fun l w => held mr d l w q g) := by
  have h := by_role (mr := mr) (d := d) (q := q) (g := g) 0 c
  have h0 := by_chunk (mr := mr) (d := d) (q := q) (g := g) 0 0 c
  simp only [Nat.zero_add] at h h0
  constructor
  · iintro H
    ihave H := h.1 $$ H
    icases H with ⟨H0, H1, H2, H3⟩
    ihave H0 := h0.1 $$ H0
    icases H0 with ⟨Ha, Hb, Hc, Hd⟩
    unfold seven; iframe
  · unfold seven
    iintro ⟨Ha, Hb, Hc, Hd, H1, H2, H3⟩
    iapply h.2
    isplitl [Ha Hb Hc Hd]
    · iapply h0.2; iframe
    iframe

omit [FloatOps F] in
/-- The owned quarter whole and the others in chunks. -/
theorem by_thirteen (b : ℕ) (c : Dev nD) : (held mr d b 4096 q g : sProp 𝕄) ⊣⊢ thirteen c (fun l w => held mr d (b + l) w q g) := by
  have h := by_role (mr := mr) (d := d) (q := q) (g := g) b c
  have hc := fun r => by_chunk (mr := mr) (d := d) (q := q) (g := g) b r c
  constructor
  · iintro H
    ihave H := h.1 $$ H
    icases H with ⟨H0, H1, H2, H3⟩
    ihave H1 := (hc 1).1 $$ H1
    ihave H2 := (hc 2).1 $$ H2
    ihave H3 := (hc 3).1 $$ H3
    icases H1 with ⟨Ha, Hb, Hc, Hd⟩
    icases H2 with ⟨Ia, Ib, Ic, Id⟩
    icases H3 with ⟨Ja, Jb, Jc, Jd⟩
    unfold thirteen; iframe
  · unfold thirteen
    iintro ⟨H0, Ha, Hb, Hc, Hd, Ia, Ib, Ic, Id, Ja, Jb, Jc, Jd⟩
    iapply h.2
    isplitl [H0]; · iexact H0
    isplitl [Ha Hb Hc Hd]; · iapply (hc 1).2; iframe
    isplitl [Ia Ib Ic Id]; · iapply (hc 2).2; iframe
    iapply (hc 3).2; iframe

end Cut

/-! ## The result -/

theorem halves (c : Dev nD) : (hOwn c = 0 ∧ hRem c = 4096) ∨ (hOwn c = 4096 ∧ hRem c = 0) := by
  revert c; decide +kernel

omit [FloatOps F] in
theorem out_halves (c : Dev nD) (g : Shape.Idx S256x8192 → Elt F .bf16) :
    (held oH c 0 8192 fullShare g : sProp 𝕄) ⊣⊢ iprop(held oH c (hOwn c) 4096 fullShare g ∗ held oH c (hRem c) 4096 fullShare g) := by
  have hs : (held oH c 0 8192 fullShare g : sProp 𝕄) ⊢ iprop(held oH c 0 4096 fullShare g ∗ held oH c 4096 4096 fullShare g) := held_split 0 4096 4096
  have hj : (held oH c 0 4096 fullShare g : sProp 𝕄) ⊢ iprop(held oH c 4096 4096 fullShare g -∗ held oH c 0 8192 fullShare g) := held_join 0 4096 4096
  rcases halves c with ⟨h1, h2⟩ | ⟨h1, h2⟩ <;> rw [h1, h2]
  · refine ⟨hs, ?_⟩
    iintro ⟨H0, H1⟩
    iapply hj $$ H0 H1
  · refine ⟨?_, ?_⟩
    · iintro H
      ihave H := hs $$ H
      icases H with ⟨H0, H1⟩
      iframe
    · iintro ⟨H1, H0⟩
      iapply hj $$ H0 H1

omit [FloatOps F] in
theorem out_split (c : Dev nD) (g : Shape.Idx S256x8192 → Elt F .bf16) :
    (held oH c 0 8192 fullShare g : sProp 𝕄) ⊢ iprop(four (fun l w => held oH c (hOwn c + l) w fullShare g) ∗ thirteen c (fun l w => held oH c (hRem c + l) w fullShare g)) := by
  iintro H
  ihave H := (out_halves c g).1 $$ H
  icases H with ⟨H0, H1⟩
  isplitl [H0]
  · iapply (half_split _) $$ H0
  · iapply (by_thirteen _ c).1 $$ H1

omit [FloatOps F] in
theorem out_join (c : Dev nD) (g : Shape.Idx S256x8192 → Elt F .bf16) :
    iprop(four (fun l w => held oH c (hOwn c + l) w fullShare g) ∗ thirteen c (fun l w => held oH c (hRem c + l) w fullShare g)) ⊢ (held oH c 0 8192 fullShare g : sProp 𝕄) := by
  iintro ⟨H0, H1⟩
  iapply (out_halves c g).2
  isplitl [H0]
  · iapply (half_join _) $$ H0
  · iapply (by_thirteen _ c).2 $$ H1

/-! ## The two slots -/

abbrev wMpts (c : Dev nD) (f : Buf (Elt F) ((wM : Memref sig .tc .vmem S2x512x1024 .f32).view.loc (c : Thread nD τ))) : sProp 𝕄 :=
  iprop((wM : Memref sig .tc .vmem S2x512x1024 .f32).view.loc (c : Thread nD τ) ↦{fullShare} f)

theorem slot_disjoint : Disjoint ((wM : Memref sig .tc .vmem S2x512x1024 .f32).view.setOn (slotSet 0)) (wM.view.setOn (slotSet 1)) := by
  refine (Finset.disjoint_map _).mpr (Finset.disjoint_left.mpr fun i hi hj => ?_)
  have h0 := (Finset.mem_filter.mp hi).2
  have h1 := (Finset.mem_filter.mp hj).2
  omega
theorem slot_union : (wM : Memref sig .tc .vmem S2x512x1024 .f32).view.setOn (slotSet 0) ∪ wM.view.setOn (slotSet 1) = Finset.univ := by
  rw [show (wM : Memref sig .tc .vmem S2x512x1024 .f32).view.setOn (slotSet 0) ∪ wM.view.setOn (slotSet 1) = wM.view.setOn (slotSet 0 ∪ slotSet 1) from (Finset.map_union _ _).symm,
    show slotSet 0 ∪ slotSet 1 = Finset.univ from ?_]
  · exact View.set_whole _
  · ext i
    have h : (i 0).val < 2 := (i 0).isLt
    simp only [slotSet, Finset.mem_union, Finset.mem_filter, Finset.mem_univ, true_and, iff_true]
    omega

omit [FloatOps F] in
theorem slots_split (c : Dev nD) (f) : wMpts (F := F) c f ⊢ iprop(slotAny c 0 ∗ slotAny c 1) := by
  unfold wMpts slotAny
  iintro H
  ihave H := (Entails.of_eq (show ((wM : Memref sig .tc .vmem S2x512x1024 .f32).view.loc (c : Thread nD τ) ↦{fullShare} f : sProp 𝕄)
    = (wM.view.loc (c : Thread nD τ) ↦[wM.view.setOn (slotSet 0) ∪ wM.view.setOn (slotSet 1)]{fullShare} f) from by rw [slot_union])) $$ H
  ihave H := (pointsTo_union slot_disjoint).1 $$ H
  icases H with ⟨H0, H1⟩
  isplitl [H0]
  · iexists f; iexact H0
  · iexists f; iexact H1

omit [FloatOps F] in
theorem slots_join (c : Dev nD) : iprop(slotAny c 0 ∗ slotAny c 1) ⊢ (iprop(∃ f, wMpts (F := F) c f) : sProp 𝕄) := by
  unfold wMpts slotAny
  iintro ⟨⟨%f, H0⟩, ⟨%f', H1⟩⟩
  ihave H := (pointsTo_join (f := f) (g := f') slot_disjoint) $$ [H0 H1]
  · iframe
  iexists _
  rw [slot_union]
  iexact H

/-! ## The landing buffers, handed to the neighbours -/

omit [FloatOps F] in
theorem dst_mine (k : Fin 17) (r i : Fin 4) (a : Fin 3) (hr : rrole k = r) (hi : chnk k = i) (c : Dev nD) (ha : peer k c = nb a c) (hk : k.val < 16)
    (g : Shape.Idx S256x4096 → Elt F .bf16) : (held rM c (ck r i c) 256 fullShare g : sProp 𝕄) ⊢ dst k (nb a c) := by
  subst hr hi
  rw [← ha]
  unfold dst
  rw [if_pos hk, peer_peer, lo_of_peer]
  iintro H; iexists g; iexact H

omit [FloatOps F] in
theorem dst_sums (c : Dev nD) (g : Shape.Idx S256x128 → Elt F .bf16) :
    (held bM c 0 128 fullShare g : sProp 𝕄) ⊢ dst 16 (nb 0 c) := by
  rw [show nb 0 c = peer 16 c from rfl]
  unfold dst
  rw [if_neg (by decide), peer_peer]
  iintro H; iexists g; iexact H

omit [FloatOps F] in
theorem landing (c : Dev nD) (g : Shape.Idx S256x4096 → Elt F .bf16) (g' : Shape.Idx S256x128 → Elt F .bf16) :
    iprop(held rM c 0 4096 fullShare g ∗ held bM c 0 128 fullShare g') ⊢ (iprop(barPay (nb 0 c) 0 ∗ barPay (nb 1 c) 1 ∗ barPay (nb 2 c) 2) : sProp 𝕄) := by
  have h0 := by_chunk (mr := rM) (d := c) (q := fullShare) (g := g) 0 0 c
  simp only [Nat.zero_add] at h0
  iintro ⟨H, Hb⟩
  ihave H := (by_thirteen 0 c).1 $$ H
  unfold thirteen
  simp only [Nat.zero_add]
  icases H with ⟨H0, Ha, Hb', Hc, Hd, Ia, Ib, Ic, Id, Ja, Jb, Jc, Jd⟩
  ihave H0 := h0.1 $$ H0
  icases H0 with ⟨Oa, Ob, Oc, Od⟩
  ihave Oa := (dst_mine 0 0 0 0 rfl rfl c rfl (by decide) g) $$ Oa
  ihave Ob := (dst_mine 1 0 1 0 rfl rfl c rfl (by decide) g) $$ Ob
  ihave Oc := (dst_mine 2 0 2 0 rfl rfl c rfl (by decide) g) $$ Oc
  ihave Od := (dst_mine 3 0 3 0 rfl rfl c rfl (by decide) g) $$ Od
  ihave Jc := (dst_mine 4 3 2 0 rfl rfl c rfl (by decide) g) $$ Jc
  ihave Jd := (dst_mine 5 3 3 0 rfl rfl c rfl (by decide) g) $$ Jd
  ihave Hb := (dst_sums c g') $$ Hb
  ihave Ha := (dst_mine 6 1 0 1 rfl rfl c rfl (by decide) g) $$ Ha
  ihave Hb' := (dst_mine 7 1 1 1 rfl rfl c rfl (by decide) g) $$ Hb'
  ihave Hc := (dst_mine 8 1 2 1 rfl rfl c rfl (by decide) g) $$ Hc
  ihave Hd := (dst_mine 9 1 3 1 rfl rfl c rfl (by decide) g) $$ Hd
  ihave Ja := (dst_mine 10 3 0 1 rfl rfl c rfl (by decide) g) $$ Ja
  ihave Jb := (dst_mine 11 3 1 1 rfl rfl c rfl (by decide) g) $$ Jb
  ihave Ia := (dst_mine 12 2 0 2 rfl rfl c rfl (by decide) g) $$ Ia
  ihave Ib := (dst_mine 13 2 1 2 rfl rfl c rfl (by decide) g) $$ Ib
  ihave Ic := (dst_mine 14 2 2 2 rfl rfl c rfl (by decide) g) $$ Ic
  ihave Id := (dst_mine 15 2 3 2 rfl rfl c rfl (by decide) g) $$ Id
  isplitl [Oa Ob Oc Od Jc Jd Hb]
  · iapply (Entails.of_eq (show (iprop(dst 0 (nb 0 c) ∗ dst 1 (nb 0 c) ∗ dst 2 (nb 0 c) ∗ dst 3 (nb 0 c) ∗ dst 4 (nb 0 c) ∗ dst 5 (nb 0 c) ∗ dst 16 (nb 0 c)) : sProp 𝕄)
      = barPay (nb 0 c) 0 from rfl))
    isplitl [Oa]; · iexact Oa
    isplitl [Ob]; · iexact Ob
    isplitl [Oc]; · iexact Oc
    isplitl [Od]; · iexact Od
    isplitl [Jc]; · iexact Jc
    isplitl [Jd]; · iexact Jd
    iexact Hb
  isplitl [Ha Hb' Hc Hd Ja Jb]
  · iapply (Entails.of_eq (show (iprop(dst 6 (nb 1 c) ∗ dst 7 (nb 1 c) ∗ dst 8 (nb 1 c) ∗ dst 9 (nb 1 c) ∗ dst 10 (nb 1 c) ∗ dst 11 (nb 1 c)) : sProp 𝕄)
      = barPay (nb 1 c) 1 from rfl))
    isplitl [Ha]; · iexact Ha
    isplitl [Hb']; · iexact Hb'
    isplitl [Hc]; · iexact Hc
    isplitl [Hd]; · iexact Hd
    isplitl [Ja]; · iexact Ja
    iexact Jb
  · iapply (Entails.of_eq (show (iprop(dst 12 (nb 2 c) ∗ dst 13 (nb 2 c) ∗ dst 14 (nb 2 c) ∗ dst 15 (nb 2 c)) : sProp 𝕄)
      = barPay (nb 2 c) 2 from rfl))
    isplitl [Ia]; · iexact Ia
    isplitl [Ib]; · iexact Ib
    isplitl [Ic]; · iexact Ic
    iexact Id

end Cert.KernelIdeal.K

end
-- ==== Proof.Data.lean ====
/-
What a device holds before and after its one grid point, and that the body takes the one to the other.
-/
module

public import proofs.«01_k».proof.Proof.Whole
public import proofs.«01_k».proof.Proof.Gen.KernelIdeal.Launch
public import proofs.«01_k».proof.Proof.Gen.KernelIdeal.Points

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A buffer of device `c`, whole. -/
abbrev whole (c : Dev nD) (b : Ref sig .tc) (f : Buf (Elt F) ((c : Thread nD τ).loc b)) : sProp 𝕄 := iprop((c : Thread nD τ).loc b ↦{fullShare} f)
abbrev wholeAny (c : Dev nD) (b : Ref sig .tc) : sProp 𝕄 := iprop(∃ f, whole (F := F) c b f)

/-- What the launch's global step leaves with device `c`: the tokens of the duties it pays, its positions, and the counters of the
    semaphores of its local copies. -/
def ghosts (c : Dev nD) : sProp 𝕄 :=
  iprop((dutyTok ER (barCell (nb 0 c)) 0 0 ∗ dutyTok ER (barCell (nb 1 c)) 0 1 ∗ dutyTok ER (barCell (nb 2 c)) 0 2)
    ∗ atPos ER (barCell c) 0 ∅ 0 ∗ (bigSep Finset.univ fun k => Kit k c) ∗ (bigSep Finset.univ fun k => atPos ER (recvCell k c) 0 ∅ 0)
    ∗ bigSep Finset.univ fun i => Zl c i)
/-- The credit of its waits on its neighbours. -/
def credits (c : Dev nD) : sProp 𝕄 :=
  iprop(cred (tallyAt (barCell c) () 3) ∗ bigSep Finset.univ fun k => cred (tallyAt (recvCell k c) () (amt k)))
def start (c : Dev nD) : sProp 𝕄 :=
  iprop((∃ K, records m K ∗ ghosts c) ∗ levAts L lv ∗ credits c
    ∗ whole c main_arg0 (m ((c : Thread nD τ).loc main_arg0)) ∗ whole c main_arg1 (m ((c : Thread nD τ).loc main_arg1)) ∗ whole c main_v1 (m ((c : Thread nD τ).loc main_v1)))

def scr (c : Dev nD) : sProp 𝕄 :=
  iprop(wholeAny c cc0_scratch0 ∗ wholeAny c cc0_scratch1 ∗ wholeAny c cc0_scratch2 ∗ wholeAny c cc0_scratch3 ∗ wholeAny c cc0_scratch4 ∗ wholeAny c cc0_scratch5)

/-- The arguments unchanged and the result. -/
def results (c : Dev nD) : sProp 𝕄 :=
  iprop(whole c main_arg0 (m ((c : Thread nD τ).loc main_arg0)) ∗ whole c main_arg1 (m ((c : Thread nD τ).loc main_arg1)) ∗ whole c main_v1 (O m c))

def Φ₀ (c : Dev nD) : sProp 𝕄 := iprop(start m c ∗ scr c)
def Φ₁ (c : Dev nD) : sProp 𝕄 :=
  iprop(results m c ∗ scr c ∗ Zb c ∗ (bigSep Finset.univ fun k => Zs k c) ∗ (bigSep Finset.univ fun k => Zr k c) ∗ bigSep Finset.univ fun i => Zl c i)

omit [FloatOps F] in
theorem each17_eq (P : Fin 17 → sProp 𝕄) : bigSep Finset.univ P = each17 P :=
  bigSep_univ_eq_bigSepL [0, 1, 2, 3, 4, 5, 6, 7, 8, 9, 10, 11, 12, 13, 14, 15, 16] (by decide) (by decide) P
omit [FloatOps F] in
theorem each20_eq (P : Fin 20 → sProp 𝕄) : bigSep Finset.univ P = each20 P :=
  bigSep_univ_eq_bigSepL [0, 1, 2, 3, 4, 5, 6, 7, 8, 9, 10, 11, 12, 13, 14, 15, 16, 17, 18, 19] (by decide) (by decide) P

omit [FloatOps F] in
theorem seven_mono (c : Dev nD) {P P' : ℕ → ℕ → sProp 𝕄} (h : ∀ l w, P l w ⊢ P' l w) : seven c P ⊢ seven c P' :=
  BIClass.sep_mono (h _ _) (BIClass.sep_mono (h _ _) (BIClass.sep_mono (h _ _) (BIClass.sep_mono (h _ _) (BIClass.sep_mono (h _ _) (BIClass.sep_mono (h _ _) (h _ _))))))
omit [FloatOps F] in
theorem four_mono {P P' : ℕ → ℕ → sProp 𝕄} (h : ∀ l w, P l w ⊢ P' l w) : four P ⊢ four P' :=
  BIClass.sep_mono (h _ _) (BIClass.sep_mono (h _ _) (BIClass.sep_mono (h _ _) (h _ _)))
omit [FloatOps F] in
theorem thirteen_mono (c : Dev nD) {P P' : ℕ → ℕ → sProp 𝕄} (h : ∀ l w, P l w ⊢ P' l w) : thirteen c P ⊢ thirteen c P' :=
  BIClass.sep_mono (h _ _) (BIClass.sep_mono (h _ _) (BIClass.sep_mono (h _ _) (BIClass.sep_mono (h _ _) (BIClass.sep_mono (h _ _) (BIClass.sep_mono (h _ _) (BIClass.sep_mono (h _ _) (BIClass.sep_mono (h _ _)
    (BIClass.sep_mono (h _ _) (BIClass.sep_mono (h _ _) (BIClass.sep_mono (h _ _) (BIClass.sep_mono (h _ _) (h _ _))))))))))))

section Held
variable {R N : ℕ} {e : EltTy} {sp : Space} {mr : Memref sig .tc sp ⟨2, ![R, N]⟩ e} {c : Dev nD}

omit [FloatOps F] in
theorem held_any {l w : ℕ} {g : Shape.Idx ⟨2, ![R, N]⟩ → Elt F e} : (held mr c l w fullShare g : sProp 𝕄) ⊢ iprop(∃ g, held mr c l w fullShare g) := by
  iintro H; iexists g; iexact H
omit [FloatOps F] in
theorem whole_held (hw : mr.view.set = Finset.univ) (f : Buf (Elt F) (mr.view.loc (c : Thread nD τ))) (g : Shape.Idx ⟨2, ![R, N]⟩ → Elt F e)
    (hg : mr.view.read (Elt F) f = g) : (mr.view.loc (c : Thread nD τ) ↦{fullShare} f : sProp 𝕄) ⊢ held mr c 0 N fullShare g :=
  hg ▸ held_of_whole hw f
omit [FloatOps F] in
theorem held_whole (hw : mr.view.set = Finset.univ) (f : Buf (Elt F) (mr.view.loc (c : Thread nD τ))) (hf : ∀ f', mr.view.read (Elt F) f' = mr.view.read (Elt F) f → f' = f) :
    (held mr c 0 N fullShare (mr.view.read (Elt F) f) : sProp 𝕄) ⊢ (mr.view.loc (c : Thread nD τ) ↦{fullShare} f) := by
  iintro H
  ihave H := (whole_of_held hw) $$ H
  icases H with ⟨%f', H, %h⟩
  ihave H := (Entails.of_eq (show (mr.view.loc (c : Thread nD τ) ↦{fullShare} f' : sProp 𝕄) = (mr.view.loc (c : Thread nD τ) ↦{fullShare} f) from by rw [hf f' h])) $$ H
  iexact H
omit [FloatOps F] in
theorem any_whole (hw : mr.view.set = Finset.univ) {g : Shape.Idx ⟨2, ![R, N]⟩ → Elt F e} : (held mr c 0 N fullShare g : sProp 𝕄) ⊢ wholeAny c mr.view.ref := by
  iintro H
  ihave H := (whole_of_held hw) $$ H
  icases H with ⟨%f, H, -⟩
  iexists f; iexact H
end Held

/-- The body's precondition from what the device starts with. -/
theorem start_cut (c : Dev nD) : iprop(Φ₀ m c ∗ ∃ W, owes (c : Thread nD τ) (O₀ c) W) ⊢ iprop(∃ K, bodyStart m K c) := by
  have hx : (whole c main_arg0 (m ((c : Thread nD τ).loc main_arg0)) : sProp 𝕄) ⊢ held xH c 0 512 fullShare (X m c) := whole_held (mr := xH) (c := c) (View.set_whole main_arg0) _ _ rfl
  have hw : (whole c main_arg1 (m ((c : Thread nD τ).loc main_arg1)) : sProp 𝕄) ⊢ held wH c 0 4096 fullShare (Wt m c) := whole_held (mr := wH) (c := c) (View.set_whole main_arg1) _ _ rfl
  have ho : (whole c main_v1 (m ((c : Thread nD τ).loc main_v1)) : sProp 𝕄) ⊢ held oH c 0 8192 fullShare (m ((c : Thread nD τ).loc main_v1)) := whole_held (mr := oH) (c := c) (View.set_whole main_v1) _ _ rfl
  have h0 : ∀ f, (whole c cc0_scratch0 f : sProp 𝕄) ⊢ held xM c 0 512 fullShare f := fun f => whole_held (mr := xM) (c := c) (View.set_whole cc0_scratch0) _ _ rfl
  have h2 : ∀ f, (whole c cc0_scratch2 f : sProp 𝕄) ⊢ held sM c 0 4096 fullShare f := fun f => whole_held (mr := sM) (c := c) (View.set_whole cc0_scratch2) _ _ rfl
  have h3 : ∀ f, (whole c cc0_scratch3 f : sProp 𝕄) ⊢ held rM c 0 4096 fullShare f := fun f => whole_held (mr := rM) (c := c) (View.set_whole cc0_scratch3) _ _ rfl
  have h4 : ∀ f, (whole c cc0_scratch4 f : sProp 𝕄) ⊢ held aM c 0 128 fullShare f := fun f => whole_held (mr := aM) (c := c) (View.set_whole cc0_scratch4) _ _ rfl
  have h5 : ∀ f, (whole c cc0_scratch5 f : sProp 𝕄) ⊢ held bM c 0 128 fullShare f := fun f => whole_held (mr := bM) (c := c) (View.set_whole cc0_scratch5) _ _ rfl
  have h1 : ∀ f, (whole c cc0_scratch1 f : sProp 𝕄) ⊢ iprop(slotAny c 0 ∗ slotAny c 1) := fun f => slots_split c f
  unfold Φ₀ start scr ghosts credits
  iintro ⟨⟨⟨⟨%K, HR, Ht, HaB, HK, HaV, Hz⟩, HL, ⟨HcB, HcV⟩, Hx, Hw, Ho⟩, ⟨%f0, S0⟩, ⟨%f1, S1⟩, ⟨%f2, S2⟩, ⟨%f3, S3⟩, ⟨%f4, S4⟩, ⟨%f5, S5⟩⟩, HO⟩
  iexists K
  ihave Hx := hx $$ Hx
  ihave Hw := hw $$ Hw
  ihave Hw := (by_seven c).1 $$ Hw
  ihave Ho := ho $$ Ho
  ihave Ho := (out_split c _) $$ Ho
  icases Ho with ⟨Ho1, Ho2⟩
  ihave Ho1 := (four_mono fun l w => held_any) $$ Ho1
  ihave Ho2 := (thirteen_mono c fun l w => held_any) $$ Ho2
  ihave S0 := (h0 _) $$ S0
  ihave S1 := (h1 _) $$ S1
  icases S1 with ⟨S1a, S1b⟩
  ihave S2 := (h2 _) $$ S2
  ihave S2 := (by_seven c).1 $$ S2
  ihave S2 := (seven_mono c fun l w => held_any) $$ S2
  ihave S3 := (h3 _) $$ S3
  ihave S4 := (h4 _) $$ S4
  ihave S5 := (h5 _) $$ S5
  ihave Hp := (landing c _ _) $$ [S3 S5]
  · isplitl [S3] <;> iassumption
  ihave HK := (Entails.of_eq (each17_eq _)) $$ HK
  ihave HV := (Entails.of_eq (bigSep_sep' Finset.univ (fun k : Fin 17 => (cred (tallyAt (recvCell k c) () (amt k)) : sProp 𝕄)) (fun k => atPos ER (recvCell k c) 0 ∅ 0)).symm) $$ [HcV HaV]
  · isplitl [HcV] <;> iassumption
  ihave HV := (Entails.of_eq (each17_eq _)) $$ HV
  ihave Hz := (Entails.of_eq (each20_eq _)) $$ Hz
  unfold bodyStart
  isplitl [HR]; · iexact HR
  isplitl [HL]; · iexact HL
  isplitl [Hx]; · iexact Hx
  isplitl [S0]; · iexists f0; iexact S0
  isplitl [Hw]; · iexact Hw
  isplitl [S1a]; · iexact S1a
  isplitl [S1b]; · iexact S1b
  isplitl [S2]; · iexact S2
  isplitl [S4]; · iexists f4; iexact S4
  isplitl [Ho1]; · iexact Ho1
  isplitl [Ho2]; · iexact Ho2
  isplitl [Ht]; · iexact Ht
  isplitl [Hp]; · iexact Hp
  isplitl [HO]; · iexact HO
  isplitl [HcB]; · iexact HcB
  isplitl [HaB]; · iexact HaB
  isplitl [HK]; · iexact HK
  isplitl [HV]; · iexact HV
  iexact Hz

/-- What the device ends with from the body's postcondition. -/
theorem end_join (c : Dev nD) : bodyEnd m c ⊢ iprop(Φ₁ m c ∗ Owes c []) := by
  have hx : (held xH c 0 512 fullShare (X m c) : sProp 𝕄) ⊢ whole c main_arg0 (m ((c : Thread nD τ).loc main_arg0)) :=
    held_whole (mr := xH) (c := c) (View.set_whole main_arg0) (m ((c : Thread nD τ).loc main_arg0)) (fun f h => h)
  have hw : (held wH c 0 4096 fullShare (Wt m c) : sProp 𝕄) ⊢ whole c main_arg1 (m ((c : Thread nD τ).loc main_arg1)) :=
    held_whole (mr := wH) (c := c) (View.set_whole main_arg1) (m ((c : Thread nD τ).loc main_arg1)) (fun f h => h)
  have ho : (held oH c 0 8192 fullShare (O m c) : sProp 𝕄) ⊢ whole c main_v1 (O m c) :=
    held_whole (mr := oH) (c := c) (View.set_whole main_v1) (O m c) (fun f h => h)
  have h0 : (held xM c 0 512 fullShare (X m c) : sProp 𝕄) ⊢ wholeAny c cc0_scratch0 := any_whole (mr := xM) (c := c) (View.set_whole cc0_scratch0)
  have h2 : (held sM c 0 4096 fullShare (SS m c) : sProp 𝕄) ⊢ wholeAny c cc0_scratch2 := any_whole (mr := sM) (c := c) (View.set_whole cc0_scratch2)
  have h3 : (held rM c 0 4096 fullShare (RR m c) : sProp 𝕄) ⊢ wholeAny c cc0_scratch3 := any_whole (mr := rM) (c := c) (View.set_whole cc0_scratch3)
  have h4 : (held aM c 0 128 fullShare (st m c) : sProp 𝕄) ⊢ wholeAny c cc0_scratch4 := any_whole (mr := aM) (c := c) (View.set_whole cc0_scratch4)
  have h5 : (held bM c 0 128 fullShare (st m (py c)) : sProp 𝕄) ⊢ wholeAny c cc0_scratch5 := any_whole (mr := bM) (c := c) (View.set_whole cc0_scratch5)
  have h1 : iprop(slotAny (F := F) c 0 ∗ slotAny c 1) ⊢ (wholeAny c cc0_scratch1 : sProp 𝕄) := slots_join c
  have hs : (four (sDone m c) : sProp 𝕄) ⊢ held sM c 0 4096 fullShare (SS m c) := half_join (mr := sM) (d := c) (q := fullShare) (g := SS m c) 0
  have hr : (thirteen c (rDone m c) : sProp 𝕄) ⊢ held rM c 0 4096 fullShare (RR m c) := by
    have h := (by_thirteen (mr := rM) (d := c) (q := fullShare) (g := RR m c) 0 c).2
    simp only [Nat.zero_add] at h
    exact h
  unfold bodyEnd Φ₁ results scr
  iintro ⟨Hx, S0, Hw, S1a, S1b, Ho1, S2, Ho2, S3, S4, S5, HO, HzB, HzS, HzV, HzL⟩
  ihave Hx := hx $$ Hx
  ihave Hw := (by_seven c).2 $$ Hw
  ihave Hw := hw $$ Hw
  ihave Ho := (out_join c (O m c)) $$ [Ho1 Ho2]
  · isplitl [Ho1] <;> iassumption
  ihave Ho := ho $$ Ho
  ihave S0 := h0 $$ S0
  ihave S1 := h1 $$ [S1a S1b]
  · isplitl [S1a] <;> iassumption
  ihave S2 := hs $$ S2
  ihave S2 := h2 $$ S2
  ihave S3 := hr $$ S3
  ihave S3 := h3 $$ S3
  ihave S4 := h4 $$ S4
  ihave S5 := h5 $$ S5
  ihave HzS := (Entails.of_eq (each17_eq (F := F) fun k => Zs k c).symm) $$ HzS
  ihave HzV := (Entails.of_eq (each17_eq (F := F) fun k => Zr k c).symm) $$ HzV
  ihave HzL := (Entails.of_eq (each20_eq (F := F) fun i => Zl c i).symm) $$ HzL
  isplitr [HO]
  · isplitl [Hx Hw Ho]
    · isplitl [Hx]; · iexact Hx
      isplitl [Hw]; · iexact Hw
      iexact Ho
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [HzB]; · iexact HzB
    isplitl [HzS]; · iexact HzS
    isplitl [HzV]; · iexact HzV
    iexact HzL
  · iexact HO

/-! ## The proof data and the body's obligation -/

variable (ρ : Dev nD → PrngReg)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(emp) := by
  rw [show (Finset.univ : Finset (Fin cfg0.W)) = ∅ from rfl, BI.bigSep_empty]; rfl

theorem body_at (t : Fin cfg0.N) : defs₀ (F := F) .tc cfg0.body (cfg0.bodyArgs t (cfg0.slots t)) = bodyAt0 t := by
  unfold defs₀
  rfl

theorem body_obligation (c : Dev nD) : BodyObligation (dats (F := F) m 0 c) (defs₀ (F := F)) 𝒱₀ () Set.univ := fun t => by
  rw [show t = t0_0 from fin_N0 t]
  rw [bigSep_W, bigSep_W]
  rw [body_at t0_0]
  rw [show (dats m 0 c).Φ (t0_0 : Fin cfg0.N).castSucc = Φ₀ m c from rfl, show (dats m 0 c).Φ (t0_0 : Fin cfg0.N).succ = Φ₁ m c from rfl]
  unfold Dat.owesAt Pipeline.owesWithin
  iintro ⟨H, ⟨%W, %hW, HO⟩, -⟩
  rw [show (dats m 0 c).owed (t0_0 : Fin cfg0.N).castSucc = O₀ c from rfl]
  ihave H := (start_cut m c) $$ [H HO]
  · isplitl [H]; · iexact H
    iexists W; iexact HO
  icases H with ⟨%K, H⟩
  iapply (sound m K c _) $$ H
  iintro H
  ihave H := (end_join m c) $$ H
  icases H with ⟨H, HO⟩
  unfold Owes
  icases HO with ⟨%W', HO⟩
  isplitl [H]; · iexact H
  isplitl [HO]
  · iexists W'
    isplitr; · ipureintro; exact fun _ _ => Or.inl trivial
    iexact HO
  iempintro

end Cert.KernelIdeal.K

end
-- ==== Proof.Launch.lean ====
/-
The launch: the cells' states and tokens are made and dealt to the devices, the credit of what the devices owe each other is dealt
with them, and the run of @main follows from the body.
-/
module

public import proofs.«01_k».proof.Proof.Data
public import Idealize.ShloMosaic.Lib.Pipeline.CollectiveSegs

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

abbrev Own : Type := (Fin 17 ⊕ Fin 17) ⊕ Fin 20
abbrev osem : Own → SemLoc sig
  | .inl (.inl k) => .dma (sS k)
  | .inl (.inr k) => .dma (sR k)
  | .inr i => .dma (sL i)

def semOf : SemLoc sig → Option (Fin 17 ⊕ Fin 17)
  | .reg _ => none
  | .dma s => kindOf s.val
theorem semOf_s (k : Fin 17) : semOf (.dma (sS k)) = some (.inl k) := kindOf_s k
theorem semOf_r (k : Fin 17) : semOf (.dma (sR k)) = some (.inr k) := kindOf_r k
theorem semOf_l (i : Fin 20) : semOf (.dma (sL i)) = none := kindOf_l i

theorem osem_injective : Function.Injective osem := by
  have hs : ∀ x, semOf (osem (.inl x)) = some x := by
    rintro (k | k)
    · exact semOf_s k
    · exact semOf_r k
  rintro (x | i) (y | j) h
  · have e : some x = some y := (hs x).symm.trans ((congrArg semOf h).trans (hs y))
    rw [Option.some_inj.mp e]
  · have e : some x = none := (hs x).symm.trans ((congrArg semOf h).trans (semOf_l j))
    exact absurd e (by simp)
  · have e : some y = none := (hs y).symm.trans ((congrArg semOf h.symm).trans (semOf_l i))
    exact absurd e (by simp)
  · have e : sL i = sL j := SemLoc.dma.inj h
    have hinj : Function.Injective sL := by decide +kernel
    rw [hinj e]

theorem ownSemFacts : Pipeline.OwnSemFacts cfg0.spec osem where
  isScoped := by
    have hall : ∀ s : DmaSem sig, (SemLoc.dma s : SemLoc sig).isScoped .tc = true := by decide +kernel
    rintro ((k | k) | i) <;> exact hall _
  inj := osem_injective
  disj := fun _ w => w.elim0

/-! ## The cells and the tokens -/

theorem kcell_dev (p : Dev nD × Cell) : (kcell p).1.1 = p.1 := by obtain ⟨d, _ | (k | k)⟩ := p <;> rfl
theorem kcell_sem (p : Dev nD × Cell) : semOf (kcell p).2 = p.2 := by
  obtain ⟨d, _ | (k | k)⟩ := p
  · rfl
  · exact semOf_s k
  · exact semOf_r k
theorem kcell_injective : Function.Injective kcell := fun p p' h =>
  Prod.ext ((kcell_dev p).symm.trans ((congrArg (fun g : GSem nD τ sig => g.1.1) h).trans (kcell_dev p')))
    ((kcell_sem p).symm.trans ((congrArg (fun g : GSem nD τ sig => semOf g.2) h).trans (kcell_sem p')))
def kCells : Finset (GSem nD τ sig) := Finset.univ.map ⟨kcell, kcell_injective⟩

/-- The duties of a device's own cells: its barrier's three, one of each departure and arrival. -/
abbrev Tok : Type := Fin 3 ⊕ (Fin 17 ⊕ Fin 17)
abbrev tokOf (p : Dev nD × Tok) : GSem nD τ sig × ℕ × Fin 3 := match p.2 with
  | .inl a => (barCell p.1, 0, a)
  | .inr (.inl k) => (sendCell k p.1, 0, 0)
  | .inr (.inr k) => (recvCell k p.1, 0, 0)
theorem tokOf_injective : Function.Injective tokOf := by
  let back : GSem nD τ sig × ℕ × Fin 3 → Dev nD × Tok := fun x => (x.1.1.1, match semOf x.1.2 with
    | none => .inl x.2.2
    | some y => .inr y)
  refine Function.LeftInverse.injective (g := back) ?_
  rintro ⟨d, a | (k | k)⟩
  · rfl
  · show (d, (match semOf (.dma (sS k)) with | none => Sum.inl 0 | some y => Sum.inr y : Tok)) = _
    rw [semOf_s]
  · show (d, (match semOf (.dma (sR k)) with | none => Sum.inl 0 | some y => Sum.inr y : Tok)) = _
    rw [semOf_r]
def kToks : Finset (GSem nD τ sig × ℕ × Fin 3) := Finset.univ.map ⟨tokOf, tokOf_injective⟩

def u₀ : UU :=
  (initOf (Pipeline.cells cfgs cellOf_inj) (Pipeline.launchToks cfgs cellOf_inj), (initOf kCells kToks, 1))

/-- The tokens of device `c`'s own cells, and those of the duties it pays. -/
def toks (c : Dev nD) : sProp 𝕄 :=
  iprop((bigSep Finset.univ fun a : Fin 3 => dutyTok ER (barCell c) 0 a) ∗ (bigSep Finset.univ fun k => dutyTok ER (sendCell k c) 0 0)
    ∗ bigSep Finset.univ fun k => dutyTok ER (recvCell k c) 0 0)
def payToks (c : Dev nD) : sProp 𝕄 :=
  iprop((bigSep Finset.univ fun a : Fin 3 => dutyTok ER (barCell (nb a c)) 0 a) ∗ (bigSep Finset.univ fun k => dutyTok ER (sendCell k c) 0 0)
    ∗ bigSep Finset.univ fun k => dutyTok ER (recvCell k (peer k c)) 0 0)

/-- What the launch element deals device `c`, and what the global step makes of it. -/
def G (c : Dev nD) : sProp 𝕄 :=
  iprop((bigSep Finset.univ fun k : Cell => roundState ER (Rd m) (kcell (c, k)) 0)
    ∗ (bigSep Finset.univ fun k : Cell => iprop(atPos ER (kcell (c, k)) 0 ∅ 0 ∗ reached ER (kcell (c, k)) 0)) ∗ toks c)
def G' (c : Dev nD) : sProp 𝕄 := iprop(∃ K, records m K ∗ ghosts c)

omit [FloatOps F] in
/-- Over a device's cells: the barrier, the departures, the arrivals. -/
theorem bigSep_cell (Φ : Cell → sProp 𝕄) : bigSep Finset.univ Φ
    = iprop(Φ none ∗ (bigSep Finset.univ fun k => Φ (some (.inl k))) ∗ bigSep Finset.univ fun k => Φ (some (.inr k))) := by
  rw [bigSep_univ_equiv (Equiv.optionEquivSumPUnit.{0, 0} (Fin 17 ⊕ Fin 17)).symm Φ, bigSep_univ_sum, bigSep_univ_sum, bigSep_univ_of_subsingleton PUnit.unit]
  exact Entails.antisymm (by
    show iprop(((bigSep Finset.univ fun k => Φ (some (.inl k))) ∗ bigSep Finset.univ fun k => Φ (some (.inr k))) ∗ Φ none)
      ⊢ iprop(Φ none ∗ (bigSep Finset.univ fun k => Φ (some (.inl k))) ∗ bigSep Finset.univ fun k => Φ (some (.inr k)))
    iintro ⟨⟨H1, H2⟩, H0⟩; iframe) (by
    show iprop(Φ none ∗ (bigSep Finset.univ fun k => Φ (some (.inl k))) ∗ bigSep Finset.univ fun k => Φ (some (.inr k)))
      ⊢ iprop(((bigSep Finset.univ fun k => Φ (some (.inl k))) ∗ bigSep Finset.univ fun k => Φ (some (.inr k))) ∗ Φ none)
    iintro ⟨H0, H1, H2⟩; iframe)

theorem fund_cells : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : Cell => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by unfold toks; rw [bigSep_univ_sum, bigSep_univ_sum]; rfl
  iintro HX
  imod (Rounds.fund ER (Rd m) kCells kToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun k => Zs k c) ∗ (bigSep Finset.univ fun k => Zr k c)) ∗ bigSep Finset.univ fun i => Zl c i) := by
  unfold Pipeline.ownSems0; rw [bigSep_univ_sum, bigSep_univ_sum]; rfl
omit [FloatOps F] in
theorem unscopedSems0_eq (c : Dev nD) : (unscopedSems0 c : sProp 𝕄) = Zb c := by
  unfold unscopedSems0; rw [bigSep_eq_bigSepL_of_eq [SemLoc.reg barS] (by decide +kernel) (by decide)]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ iprop((bigSep Finset.univ fun k : Cell => (semVal (kcell (c, k)) 0 : sProp 𝕄)) ∗ bigSep Finset.univ fun i => Zl c i) := by
  rw [ownSems0_eq, unscopedSems0_eq, bigSep_cell]
  unfold Zb Zs Zr
  iintro ⟨⟨⟨HS, HV⟩, HL⟩, HB⟩
  isplitr [HL]
  · isplitl [HB]; · iexact HB
    isplitl [HS]; · iexact HS
    iexact HV
  · iexact HL

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (kcell (c, k))))
          ∗ (bigSep Finset.univ fun k : Cell => iprop(atPos ER (kcell (c, k)) 0 ∅ 0 ∗ reached ER (kcell (c, k)) 0)) ∗ toks c ∗ bigSep Finset.univ fun i => Zl c i) := by
  unfold G
  iintro ⟨Hos, Hus, Hst, Hat, Htok⟩
  ihave Hv := (sems0 (F := F) c) $$ [Hos Hus]
  · isplitl [Hos] <;> iassumption
  icases Hv with ⟨Hv, HL⟩
  imod (show iprop((bigSep Finset.univ fun k : Cell => semVal (kcell (c, k)) 0) ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- What stays with device `c`. -/
def linear (c : Dev nD) : sProp 𝕄 :=
  iprop((bigSep Finset.univ fun k : Cell => atPos ER (kcell (c, k)) 0 ∅ 0) ∗ payToks c ∗ bigSep Finset.univ fun i => Zl c i)

omit [FloatOps F] in
theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

omit [FloatOps F] in
theorem linear_ghosts (c : Dev nD) : (linear (F := F) c : sProp 𝕄) ⊢ ghosts c := by
  unfold linear payToks ghosts Kit
  rw [bigSep_cell, bigSep_sep', bigSep_sep']
  iintro ⟨⟨HaB, HaS, HaV⟩, ⟨HtB, HtS, HtV⟩, Hz⟩
  isplitl [HtB]
  · ihave H := (show (bigSep Finset.univ fun a : Fin 3 => (dutyTok ER (barCell (nb a c)) 0 a : sProp 𝕄))
      ⊢ iprop(dutyTok ER (barCell (nb 0 c)) 0 0 ∗ dutyTok ER (barCell (nb 1 c)) 0 1 ∗ dutyTok ER (barCell (nb 2 c)) 0 2)
      from Entails.of_eq (bigSep_three fun a : Fin 3 => (dutyTok ER (barCell (nb a c)) 0 a : sProp 𝕄))) $$ HtB
    iexact H
  isplitl [HaB]; · iexact HaB
  isplitl [HtS HtV HaS]
  · isplitl [HtS]; · iexact HtS
    isplitl [HtV]; · iexact HtV
    iexact HaS
  isplitl [HaV]; · iexact HaV
  iexact Hz

theorem ghost_intro (K : Dev nD × Cell → ℕ) (c : Dev nD) : iprop(records m K ∗ linear c) ⊢ G' m c := by
  unfold G'
  iintro ⟨HR, H⟩
  iexists K
  isplitl [HR]; · iexact HR
  iapply (linear_ghosts c) $$ H

theorem nb_nb (a : Fin 3) (c : Dev nD) : nb a (nb a c) = c := by revert a c; decide +kernel
/-- Exchange with a neighbour. -/
def nbEquiv (a : Fin 3) : Dev nD ≃ Dev nD := ⟨nb a, nb a, nb_nb a, nb_nb a⟩
def peerEquiv (k : Fin 17) : Dev nD ≃ Dev nD := ⟨peer k, peer k, peer_peer k, peer_peer k⟩

omit [FloatOps F] in
/-- The tokens dealt to the devices which pay with them. -/
theorem toks_around : (bigSep Finset.univ fun c : Dev nD => (toks c : sProp 𝕄)) ⊢ bigSep Finset.univ fun c : Dev nD => payToks c := by
  have hB : (bigSep Finset.univ fun c : Dev nD => bigSep Finset.univ fun a : Fin 3 => (dutyTok ER (barCell c) 0 a : sProp 𝕄))
      = bigSep Finset.univ fun c : Dev nD => bigSep Finset.univ fun a : Fin 3 => dutyTok ER (barCell (nb a c)) 0 a := by
    rw [bigSep_univ_comm, bigSep_univ_comm (fun (c : Dev nD) (a : Fin 3) => (dutyTok ER (barCell (nb a c)) 0 a : sProp 𝕄))]
    exact bigSep_congr fun a _ => bigSep_univ_equiv (nbEquiv a) _
  have hV : (bigSep Finset.univ fun c : Dev nD => bigSep Finset.univ fun k : Fin 17 => (dutyTok ER (recvCell k c) 0 0 : sProp 𝕄))
      = bigSep Finset.univ fun c : Dev nD => bigSep Finset.univ fun k : Fin 17 => dutyTok ER (recvCell k (peer k c)) 0 0 := by
    rw [bigSep_univ_comm, bigSep_univ_comm (fun (c : Dev nD) (k : Fin 17) => (dutyTok ER (recvCell k (peer k c)) 0 0 : sProp 𝕄))]
    exact bigSep_congr fun k _ => bigSep_univ_equiv (peerEquiv k) _
  unfold toks payToks
  rw [bigSep_sep', bigSep_sep', bigSep_sep', bigSep_sep', hB, hV]

omit [FloatOps F] in
theorem bigSep_with_persistent {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

theorem regroup :
    (bigSep Finset.univ fun c : Dev nD => iprop((bigSep Finset.univ fun k : Cell => iprop(∃ κ : ℕ, cellInv ER (Rd m) κ (kcell (c, k))))
          ∗ (bigSep Finset.univ fun k : Cell => iprop(atPos ER (kcell (c, k)) 0 ∅ 0 ∗ reached ER (kcell (c, k)) 0)) ∗ toks c ∗ bigSep Finset.univ fun i => Zl c i) : sProp 𝕄)
      ⊢ bigSep Finset.univ (G' m) := by
  rw [bigSep_sep', bigSep_sep', bigSep_sep', ← bigSep_univ_prod (fun p : Dev nD × Cell => iprop(∃ κ : ℕ, cellInv ER (Rd m) κ (kcell p))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun p : Dev nD × Cell => (reached ER (kcell p) 0 : sProp 𝕄))]
  iintro ⟨HI, ⟨Hat, #HR⟩, Htok, Hz⟩
  ihave HK := (BI.bigSep_exists_pi Finset.univ (fun (p : Dev nD × Cell) (κ : ℕ) => (cellInv ER (Rd m) κ (kcell p) : sProp 𝕄))) $$ HI
  icases HK with ⟨%K, #HI⟩
  ihave Htk := (toks_around (F := F)) $$ Htok
  iapply (bigSep_with_persistent (P := records m K) fun c _ => ghost_intro m K c)
  isplitr
  · unfold records; isplitl; · iexact HI
    iexact HR
  · unfold linear
    rw [bigSep_sep', bigSep_sep']
    isplitl [Hat]; · iexact Hat
    isplitl [Htk]; · iexact Htk
    iexact Hz

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem owed_sum (c : Dev nD) (ks : List (Fin 17)) : owed c ks = (ks.map fun k => tallyAt (recvCell k (peer k c)) () (amt k)).sum := by
  induction ks with
  | nil => rfl
  | cons k ks ih => rw [List.map_cons, List.sum_cons, ← ih, add_comm]; rfl
theorem owed_all (c : Dev nD) : owed c allK = ∑ k : Fin 17, tallyAt (recvCell k (peer k c)) () (amt k) := by
  rw [owed_sum, ← List.sum_toFinset _ (show allK.Nodup by decide), show allK.toFinset = Finset.univ by decide]

omit [FloatOps F] in
theorem creds (c : Dev nD) : (Pipeline.launchCred O₀ c : sProp 𝕄) ⊢ credits c := by
  have hb (a : Fin 3) : (Pipeline.launchCred (fun d => tallyAt (barCell (nb a d)) () 1) c : sProp 𝕄) ⊢ cred (tallyAt (barCell c) () 1) :=
    Pipeline.launchCred_tallyAt (.reg barS) (nb a) (nb a) (nb_nb a) (nb_nb a) () 1 c
  have hr (k : Fin 17) : (Pipeline.launchCred (fun d => tallyAt (recvCell k (peer k d)) () (amt k)) c : sProp 𝕄) ⊢ cred (tallyAt (recvCell k c) () (amt k)) :=
    Pipeline.launchCred_tallyAt (.dma (sR k)) (peer k) (peer k) (peer_peer k) (peer_peer k) () (amt k) c
  rw [show O₀ = fun d => (∑ k ∈ Finset.univ, tallyAt (recvCell k (peer k d)) () (amt k)) + tallyAt (barCell (nb 2 d)) () 1 + tallyAt (barCell (nb 1 d)) () 1
      + tallyAt (barCell (nb 0 d)) () 1 from funext fun d => by unfold O₀; rw [owed_all]; rfl,
    Pipeline.launchCred_add, Pipeline.launchCred_add, Pipeline.launchCred_add,
    Pipeline.launchCred_sum Finset.univ (fun (k : Fin 17) d => tallyAt (recvCell k (peer k d)) () (amt k)) c]
  unfold credits
  iintro ⟨⟨⟨HV, H2⟩, H1⟩, H0⟩
  ihave H0 := (hb 0) $$ H0
  ihave H1 := (hb 1) $$ H1
  ihave H2 := (hb 2) $$ H2
  ihave HV := (show (bigSep Finset.univ fun k : Fin 17 => (Pipeline.launchCred (fun d => tallyAt (recvCell k (peer k d)) () (amt k)) c : sProp 𝕄))
      ⊢ bigSep Finset.univ fun k : Fin 17 => cred (tallyAt (recvCell k c) () (amt k)) from bigSep_mono fun k _ => hr k) $$ HV
  isplitr [HV]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [H0]; · iexact H0
    iapply (cred_add _ _).2
    isplitl [H1] <;> iassumption
  · iexact HV

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G'
  iintro ⟨⟨H0, H1, H2⟩, Hlev, Hcr, -, HG⟩
  ihave Hc := (creds (F := F) c) $$ Hcr
  imodintro
  isplitl
  · isplitl [HG]; · iexact HG
    isplitl [Hlev]; · iexact Hlev
    isplitl [Hc]; · iexact Hc
    isplitl [H0]; · iexact H0
    isplitl [H1]; · iexact H1
    iexact H2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, H⟩
  isplitl [Hs]; · iexact Hs
  iexact H

theorem phi1_exit (c : Dev nD) :
    (dats m 0 c).Φ (Fin.last cfg0.N) ⊢ iprop((unscopedSems0 c ∗ results m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scr
  iintro ⟨Hr, H, HzB, HzS, HzV, HzL⟩
  isplitl [HzB Hr]
  · isplitl [HzB] <;> iassumption
  isplitl [HzS HzV HzL]
  · isplitr [HzL]
    · isplitl [HzS] <;> iassumption
    · iexact HzL
  iexact H

theorem waits (c : Dev nD) : (levAts L lv : sProp 𝕄) ⊢ Pipeline.cellsWaits cfgs (dats m) () 0 c :=
  Pipeline.cellsWaits_intro cfgs (dats m) () 0 c fun w s t => w.elim0

/-- The memory at the end, device by device. -/
def Done (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = O m c

omit [FloatOps F] in
theorem read_one (c : Dev nD) (b : Ref sig .tc) (f : Buf (Elt F) ((c : Thread nD τ).loc b)) (s' : Phys nD τ sig (Elt F)) :
    iprop(whole c b f ∗ SI s') ⊢ (iprop(⌜s'.mem.mem ((c : Thread nD τ).loc b) = f⌝ ∗ SI s') : sProp 𝕄) := by
  have h := pointsTo_read_all (Ix := Unit) (Name := ℕ) (U := UU) (Lvl := ℕ) (Finset.univ : Finset (Fin 1)) (fun _ => (c : Thread nD τ).loc b) (fun _ => f) s'
  rw [bigSep_univ_of_subsingleton (0 : Fin 1)] at h
  refine h.trans ?_
  iintro ⟨%h, H⟩
  isplitr; · ipureintro; exact h 0 (Finset.mem_univ _)
  iexact H

theorem read_results (c : Dev nD) (s' : Phys nD τ sig (Elt F)) : iprop(results m c ∗ SI s') ⊢ (iprop(⌜Done m c s'.mem⌝ ∗ SI s') : sProp 𝕄) := by
  unfold results
  iintro ⟨⟨H0, H1, H2⟩, HSI⟩
  ihave H := (read_one c main_arg0 _ s') $$ [H0 HSI]
  · isplitl [H0] <;> iassumption
  icases H with ⟨%h0, HSI⟩
  ihave H := (read_one c main_arg1 _ s') $$ [H1 HSI]
  · isplitl [H1] <;> iassumption
  icases H with ⟨%h1, HSI⟩
  ihave H := (read_one c main_v1 _ s') $$ [H2 HSI]
  · isplitl [H2] <;> iassumption
  icases H with ⟨%h2, HSI⟩
  isplitr; · ipureintro; exact ⟨h0, h1, h2⟩
  iexact HSI

set_option maxRecDepth 8000 in
/-- From any memory with zero counters, for any float values: every weakly fair execution of @main on the eight devices terminates,
    and every final state has the arguments unchanged, each device's result at the computed contents and every counter at zero. -/
theorem run_main : θ_run defs (onTc (τ := τ) (main (F := F))) ⟨m, fun _ => 0, ρ⟩ (fun r => (∀ c : Dev nD, Done m c r.2) ∧ r.2.sem = fun _ => 0) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?hmain)
    (hbody := ?hbody) (hne := ?hne) (harr := ?harr) (hstage := ?hstage) (hshare := ?hshare)
    (hdistinct := ?hdistinct)
    (O₀ := O₀) (howed₀ := ?howed₀) (howedN := ?howedN)
    (L := L) (lv := lv) (hL := ?hL) (hwaits := ?hwaits)
    (G := G m) (G' := G' m) (u₀ := u₀)
    (hu₀ := ?hu)
    (hglob := ?hglob)
    (hA := ?hA) (hpf := ?hpf)
    (X := start m) (Y := fun c => iprop(unscopedSems0 c ∗ results m c)) (Z := fun _ => iprop(emp))
    (hX := ?hX) (hin := ?hin) (hout := ?hout)
    (QY := fun c s => Done m c s ∧ ∀ sm : SemLoc sig, sm.isScoped .tc = false → s.sem ((c.tc : Thread nD τ), sm) = 0)
    (hY := ?hY) (hQ := ?hQ)
  case hmain => exact fun _ => rfl
  case hbody => exact fun c => (body_obligation m c).loose
  case hne => exact fun w => w.elim0
  case harr => exact arr_whole0
  case hstage => exact stage_whole0
  case hshare => exact fun _ w => w.elim0
  case hdistinct => exact winFacts0.arr_inj
  case howed₀ => exact fun _ => rfl
  case howedN => exact fun _ => rfl
  case hL => exact L_of_ne
  case hwaits => exact waits m
  case hglob => exact glob m
  case hA => exact fun _ w => w.elim0
  case hpf => exact fun _ k => k.elim0
  case hX => exact start_intro m ρ
  case hin => exact phi0_intro m
  case hout => exact phi1_exit m
  case hQ => exact fun _ h hs => ⟨fun c => (h c).2.2.1, sem_eq_zero hs fun c => (h c).2.2.2⟩
  case hu =>
    rw [show u₀ = ((initOf (Pipeline.cells cfgs cellOf_inj) (Pipeline.launchToks cfgs cellOf_inj), (initOf kCells kToks, 1)) : UU) from rfl]
    iintro Hu
    ihave H := (ownU_pair _ _) $$ Hu
    icases H with ⟨HP, HX⟩
    ihave HX := (show (BI.own (embR ((initOf kCells kToks, 1) : UB)) : sProp 𝕄) ⊢ BI.own (ER (initOf kCells kToks)) from Entails.of_eq rfl) $$ HX
    imod (fund_cells m) $$ HX with HG
    imodintro
    isplitl [HP] <;> iassumption
  case hY =>
    intro c s'
    iintro ⟨⟨Hu, Hr⟩, -, HSI⟩
    ihave H := (read_results m c s') $$ [Hr HSI]
    · isplitl [Hr] <;> iassumption
    icases H with ⟨%h, HSI⟩
    imod (Pipeline.unscopedSems0_read (X := unscopedSems0 c) (c := c) fupd_intro s') $$ [Hu HSI] with ⟨%h', HSI⟩
    · isplitl [Hu] <;> iassumption
    imodintro
    isplitr; · ipureintro; exact ⟨h, h'⟩
    iexact HSI

end Cert.KernelIdeal.K

end
-- ==== Proof.Payloads.lean ====
/-
What the kernel computes from its blocks at the extended reals, element by element: the exponential of a logit, and a row's sum of
exponentials over a block added to what was summed before.
-/
module

public import proofs.«01_k».proof.Proof.Contents
public import Idealize.ShloMosaic.Lib.Pointwise

@[expose] public section

set_option maxRecDepth 16384

noncomputable section

namespace Cert.KernelIdeal.K

open Cert.KernelIdeal Cert.KernelIdeal.Gen
open Idealize.ShloMosaic
open Idealize.ShloMosaic.TcCoe

/-- The exponential of the logit of a row and a column of a block of weights. -/
def el {w : ℕ} (x : FVec Ideal S256x512 .bf16) (b : Vec Ideal ⟨3, ![1, 512, w]⟩ .f32) (r : Fin 256) (j : Fin w) : EReal :=
  Ideal.exp (∑ k : Fin 512, x (ix2 r k) * b (ix3 0 k j))

theorem pay3_at (x : FVec Ideal S256x512 .bf16) (b : Vec Ideal S1x512x256 .f32) (r j : Fin 256) :
    k0_pay3 x b (ix2 r j) = el x b r j := by pointwise [k0_pay3, el]
theorem pay7_at (x : FVec Ideal S256x512 .bf16) (b : Vec Ideal S1x512x256 .f32) (r j : Fin 256) :
    k0_pay7 x b (ix2 r j) = el x b r j := pay3_at x b r j
theorem pay10_at (x : FVec Ideal S256x512 .bf16) (b : Vec Ideal S1x512x256 .f32) (r j : Fin 256) :
    k0_pay10 x b (ix2 r j) = el x b r j := pay3_at x b r j
theorem pay13_at (x : FVec Ideal S256x512 .bf16) (b : Vec Ideal S1x512x256 .f32) (r j : Fin 256) :
    k0_pay13 x b (ix2 r j) = el x b r j := pay3_at x b r j
theorem pay4_at (x : FVec Ideal S256x512 .bf16) (b : Vec Ideal S1x512x256 .f32) (r j : Fin 256) :
    k0_pay4 x b (ix2 r j) = el x b r j := by
  pointwise [k0_pay4]
  exact pay3_at x b r j

theorem pay15_at (x : FVec Ideal S256x512 .bf16) (b : Vec Ideal S1x512x1024 .f32) (r : Fin 256) (j : Fin 1024) :
    k0_pay15 x b (ix2 r j) = el x b r j := by pointwise [k0_pay15, el]
theorem pay18_at (x : FVec Ideal S256x512 .bf16) (b : Vec Ideal S1x512x1024 .f32) (r : Fin 256) (j : Fin 1024) :
    k0_pay18 x b (ix2 r j) = el x b r j := pay15_at x b r j
theorem pay22_at (x : FVec Ideal S256x512 .bf16) (b : Vec Ideal S1x512x1024 .f32) (r : Fin 256) (j : Fin 1024) :
    k0_pay22 (k0_pay21 x b) (ix2 r j) = el x b r j := pay15_at x b r j
theorem pay16_at (x : FVec Ideal S256x512 .bf16) (b : Vec Ideal S1x512x1024 .f32) (r : Fin 256) (j : Fin 1024) :
    k0_pay16 x b (ix2 r j) = el x b r j := by
  pointwise [k0_pay16]
  exact pay15_at x b r j

/-- The sum a row starts from. -/
theorem pay2_at (r : Fin 256) : k0_pay2 (F := Ideal) (ix2 r 0) = 0 := by pointwise [k0_pay2]

/-- A block's row sums added to a column of sums: the first chunk, the chunks after it, the quarters. -/
theorem pay6_at (v : FVec Ideal S256x1 .f32) (x : FVec Ideal S256x512 .bf16) (b : Vec Ideal S1x512x256 .f32) (r : Fin 256) :
    k0_pay6 v (k0_pay5 x b) (ix2 r 0) = v (ix2 r 0) + ∑ j : Fin 256, k0_pay3 x b (ix2 r j) := by pointwise [k0_pay6, k0_pay5]
theorem pay9_at (v : FVec Ideal S256x1 .f32) (e : FVec Ideal S256x256 .f32) (r : Fin 256) :
    k0_pay9 v e (ix2 r 0) = v (ix2 r 0) + ∑ j : Fin 256, e (ix2 r j) := by pointwise [k0_pay9]
theorem pay12_at (v : FVec Ideal S256x1 .f32) (e : FVec Ideal S256x256 .f32) (r : Fin 256) :
    k0_pay12 v e (ix2 r 0) = v (ix2 r 0) + ∑ j : Fin 256, e (ix2 r j) := by pointwise [k0_pay12]
theorem pay17_at (x : FVec Ideal S256x512 .bf16) (v : FVec Ideal S256x1 .f32) (e : FVec Ideal S256x256 .f32)
    (b : Vec Ideal S1x512x1024 .f32) (r : Fin 256) :
    k0_pay17 x v e b (ix2 r 0) = v (ix2 r 0) + (∑ j : Fin 256, e (ix2 r j)) + ∑ j : Fin 1024, k0_pay15 x b (ix2 r j) := by
  pointwise [k0_pay17]
theorem pay20_at (x : FVec Ideal S256x512 .bf16) (v : FVec Ideal S256x1 .f32) (b : Vec Ideal S1x512x1024 .f32) (r : Fin 256) :
    k0_pay20 x v b (ix2 r 0) = v (ix2 r 0) + ∑ j : Fin 1024, k0_pay18 x b (ix2 r j) := by pointwise [k0_pay20]
theorem pay24_at (v : FVec Ideal S256x1 .f32) (e : FVec Ideal S256x1024 .f32) (r : Fin 256) :
    k0_pay24 v e (ix2 r 0) = v (ix2 r 0) + ∑ j : Fin 1024, k0_pay22 e (ix2 r j) := by pointwise [k0_pay24]

/-- The sums as they are sent: each in every lane of its row. -/
theorem pay25_at (v : FVec Ideal S256x1 .f32) (r : Fin 256) (l : Fin 128) : k0_pay25 v (ix2 r l) = v (ix2 r 0) := by
  pointwise [k0_pay25]

/-- The reciprocal of the two halves' sums. -/
theorem pay26_at (v : FVec Ideal S256x1 .f32) (u : Vec Ideal S256x1 .bf16) (r : Fin 256) :
    k0_pay26 v u (ix2 r 0) = Ideal.div 1 (v (ix2 r 0) + u (ix2 r 0)) := by pointwise [k0_pay26]

end Cert.KernelIdeal.K

end

end
-- ==== Proof.Softmax.lean ====
/-
The mathematics of the row: over finite logits, the exponential times the reciprocal of the sum of the exponentials is the softmax
with the greatest logit taken off.
-/
module

public import Idealize.ShloMosaic.Lib.Pointwise
public import Idealize.ShloMosaic.Lib.IdealHost

@[expose] public section

namespace Softmax

open Idealize.ShloMosaic

/-- An extended real that is a real number. -/
def Real? (x : EReal) : Prop := ∃ r : ℝ, x = (r : EReal)

theorem real_mul {x y : EReal} (hx : Real? x) (hy : Real? y) : Real? (x * y) := by
  obtain ⟨a, rfl⟩ := hx; obtain ⟨b, rfl⟩ := hy; exact ⟨a * b, (EReal.coe_mul a b).symm⟩

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem real_sum {ι : Type} (s : Finset ι) {f : ι → EReal} (h : ∀ i, Real? (f i)) : Real? (∑ i ∈ s, f i) := by
  choose g hg using h
  exact ⟨∑ i ∈ s, g i, by rw [← coe_sum]; exact Finset.sum_congr rfl fun i _ => hg i⟩

/-- What is less than infinity in absolute value is a real number. -/
theorem real_of_abs_lt {x : EReal} (h : max x (-x) < ⊤) : Real? x := by
  induction x with
  | bot => simp at h
  | top => simp at h
  | coe r => exact ⟨r, rfl⟩

/-- The greatest of finitely many real numbers, at least one, taken from minus infinity is a real number. -/
theorem real_fold_max {ι : Type} (s : Finset ι) (hs : s.Nonempty) {f : ι → EReal} (h : ∀ i, Real? (f i)) :
    Real? (s.fold max ⊥ f) := by
  classical
  induction hs using Finset.Nonempty.cons_induction with
  | singleton a => rw [Finset.fold_singleton, max_eq_left bot_le]; exact h a
  | cons a s ha hs ih =>
    rw [Finset.fold_cons]
    rcases max_choice (f a) (s.fold max ⊥ f) with e | e <;> rw [e]
    · exact h a
    · exact ih

theorem exp_coe (r : ℝ) : Ideal.exp (r : EReal) = ((Real.exp r : ℝ) : EReal) := rfl

/-- Over finite logits `l`, and whatever finite number `M` is taken off: the two forms of the softmax. -/
theorem softmax_eq {ι : Type} [Fintype ι] [Nonempty ι] {l : ι → EReal} (hl : ∀ i, Real? (l i)) {M : EReal} (hM : Real? M) (n : ι) :
    Ideal.exp (l n) * Ideal.div 1 (∑ j, Ideal.exp (l j)) = Ideal.div (Ideal.exp (l n - M)) (∑ j, Ideal.exp (l j - M)) := by
  choose g hg using hl
  obtain ⟨b, rfl⟩ := hM
  have hpos : 0 < ∑ j, Real.exp (g j) := Finset.sum_pos (fun i _ => Real.exp_pos _) Finset.univ_nonempty
  have hpos' : 0 < ∑ j, Real.exp (g j - b) := Finset.sum_pos (fun i _ => Real.exp_pos _) Finset.univ_nonempty
  have e1 : (∑ j, Ideal.exp (l j)) = ((∑ j, Real.exp (g j) : ℝ) : EReal) := by
    rw [← coe_sum]; exact Finset.sum_congr rfl fun j _ => by rw [hg j, exp_coe]
  have e2 : (∑ j, Ideal.exp (l j - b)) = ((∑ j, Real.exp (g j - b) : ℝ) : EReal) := by
    rw [← coe_sum]; exact Finset.sum_congr rfl fun j _ => by rw [hg j, ← EReal.coe_sub, exp_coe]
  have e3 : (∑ j, Real.exp (g j - b)) = (∑ j, Real.exp (g j)) * Real.exp (-b) := by
    rw [Finset.sum_mul]; exact Finset.sum_congr rfl fun j _ => by rw [← Real.exp_add, sub_eq_add_neg]
  rw [e1, e2, Ideal.div_coe hpos.ne', Ideal.div_coe hpos'.ne', hg n, ← EReal.coe_sub, exp_coe, exp_coe, one_mul, ← EReal.coe_mul,
    ← EReal.coe_mul]
  congr 1
  rw [e3, sub_eq_add_neg, Real.exp_add]
  have hb := (Real.exp_pos (-b)).ne'
  field_simp

/-- A sum over two halves of a row, in either order. -/
theorem sum_halves (f : ℕ → EReal) :
    (∑ n ∈ Finset.range 4096, f n) + (∑ n ∈ Finset.range 4096, f (4096 + n)) = ∑ n : Fin 8192, f n.val := by
  rw [Fin.sum_univ_eq_sum_range f 8192, show 8192 = 4096 + 4096 from rfl, Finset.sum_range_add]

/-- A sum over four quarters of a half. -/
theorem sum_quarters (f : ℕ → EReal) :
    (∑ n ∈ Finset.range 1024, f (0 + n)) + (∑ n ∈ Finset.range 1024, f (1024 + n)) + (∑ n ∈ Finset.range 1024, f (2048 + n))
      + (∑ n ∈ Finset.range 1024, f (3072 + n)) = ∑ n ∈ Finset.range 4096, f n := by
  rw [show 4096 = 1024 + 1024 + 1024 + 1024 from rfl, Finset.sum_range_add, Finset.sum_range_add, Finset.sum_range_add]
  simp only [zero_add]

/-- A sum over four chunks of a quarter. -/
theorem sum_chunks (f : ℕ → EReal) :
    (∑ n ∈ Finset.range 256, f (0 + n)) + (∑ n ∈ Finset.range 256, f (256 + n)) + (∑ n ∈ Finset.range 256, f (512 + n))
      + (∑ n ∈ Finset.range 256, f (768 + n)) = ∑ n ∈ Finset.range 1024, f n := by
  rw [show 1024 = 256 + 256 + 256 + 256 from rfl, Finset.sum_range_add, Finset.sum_range_add, Finset.sum_range_add]
  simp only [zero_add]

end Softmax

end
-- ==== Proof.Values.lean ====
/-
The result of the two-shot softmax at the extended reals: the exponential of each logit times the reciprocal of its row's sum of
exponentials, whichever device computed it and in whatever order the sum was taken.
-/
module

public import proofs.«01_k».proof.Proof.Payloads
public import proofs.«01_k».proof.Proof.Softmax

@[expose] public section

set_option maxRecDepth 16384

noncomputable section

namespace Cert.KernelIdeal.K

open Cert.KernelIdeal Cert.KernelIdeal.Gen
open Idealize.ShloMosaic
open Idealize.ShloMosaic.TcCoe

/-- The exponential of the logit of row `r` and column `n`, of the activations `A` and the weights `B`. -/
def E (A : Fin 256 → Fin 512 → EReal) (B : Fin 512 → ℕ → EReal) (r : Fin 256) (n : ℕ) : EReal := Ideal.exp (∑ k : Fin 512, A r k * B k n)

/-- The devices hold the activations `A` whole, and of the weights `B` the columns of their own half. -/
structure Holds (m : (ℓ : Loc nD τ sig) → Buf (Elt Ideal) ℓ) (A : Fin 256 → Fin 512 → EReal) (B : Fin 512 → ℕ → EReal) : Prop where
  x : ∀ c r k, X m c (ix2 (n0 := 256) (n1 := 512) r k) = A r k
  w : ∀ c k (n : Fin 4096), Wt m c (ix2 (n0 := 512) (n1 := 4096) k n) = B k (hOwn c + n.val)

variable {m : (ℓ : Loc nD τ sig) → Buf (Elt Ideal) ℓ} {A : Fin 256 → Fin 512 → EReal} {B : Fin 512 → ℕ → EReal}

/-- A block of exponentials from column `lo` of a device's half. -/
theorem el_wblk (h : Holds m A B) (c : Dev nD) (lo w : ℕ) (r : Fin 256) (j : Fin w) (hl : lo + j.val < 4096) :
    el (xb m c) (wblk m c lo w) r j = E A B r (hOwn c + lo + j.val) := by
  unfold el E
  congr 1
  refine Finset.sum_congr rfl fun k _ => ?_
  have e1 : (xb m c) (ix2 r k) = A r k := h.x c r k
  have e2 : wblk m c lo w (ix3 0 k j) = B k (hOwn c + lo + j.val) := by
    refine (h.w c k (Fin.ofNat 4096 (lo + j.val))).trans ?_
    rw [show (Fin.ofNat 4096 (lo + j.val) : Fin 4096).val = lo + j.val from Nat.mod_eq_of_lt hl, Nat.add_assoc]
  rw [e1, e2]

/-- The half a device computes. -/
theorem Sat_at (h : Holds m A B) (c : Dev nD) (r : Fin 256) (n : ℕ) (hn : n < 4096) : Sat m c r n = E A B r (hOwn c + n) := by
  unfold Sat
  split
  · refine (pay4_at _ _ _ _).trans ?_
    have hv : (Fin.ofNat 256 (n % 256) : Fin 256).val = n % 256 := Nat.mod_eq_of_lt (Nat.mod_lt _ (by decide))
    rw [el_wblk h c _ _ _ _ (by rw [hv]; omega), hv, Nat.add_assoc, Nat.div_add_mod]
  · refine (pay16_at _ _ _ _).trans ?_
    have hv : (Fin.ofNat 1024 (n % 1024) : Fin 1024).val = n % 1024 := Nat.mod_eq_of_lt (Nat.mod_lt _ (by decide))
    rw [el_wblk h c _ _ _ _ (by rw [hv]; omega), hv, Nat.add_assoc, Nat.div_add_mod]

theorem hOwn_rdev (c : Dev nD) (r : Fin 4) (low : Bool) : hOwn (rdev c r low) = hRem c := by revert c r low; decide +kernel
theorem hOwn_py (c : Dev nD) : hOwn (py c) = hRem c := by revert c; decide +kernel

/-- The half a device receives: every one of its senders computed the other half. -/
theorem R_at (h : Holds m A B) (c : Dev nD) (r : Fin 256) (n : Fin 4096) :
    R m c (ix2 (n0 := 256) (n1 := 4096) r n) = E A B r (hRem c + n.val) :=
  (Sat_at h _ r n.val n.isLt).trans (by rw [hOwn_rdev])

/-- The sum of a block of a row. -/
theorem sum_block (h : Holds m A B) (c : Dev nD) (lo w : ℕ) (r : Fin 256) (hl : lo + w ≤ 4096) (e : Fin w → EReal)
    (he : ∀ j, e j = el (xb m c) (wblk m c lo w) r j) :
    ∑ j, e j = ∑ n ∈ Finset.range w, E A B r (hOwn c + (lo + n)) := by
  rw [← Fin.sum_univ_eq_sum_range (fun n => E A B r (hOwn c + (lo + n))) w]
  refine Finset.sum_congr rfl fun j _ => (he j).trans ?_
  rw [el_wblk h c lo w r j (by have := j.isLt; omega), Nat.add_assoc]

/-- The four quarters by role are the four quarters, in some order. -/
theorem qo_cases (c : Dev nD) :
    (qo 0 c = 0 ∧ qo 1 c = 1024 ∧ qo 2 c = 2048 ∧ qo 3 c = 3072) ∨ (qo 0 c = 1024 ∧ qo 1 c = 0 ∧ qo 2 c = 3072 ∧ qo 3 c = 2048)
      ∨ (qo 0 c = 2048 ∧ qo 1 c = 3072 ∧ qo 2 c = 0 ∧ qo 3 c = 1024) ∨ (qo 0 c = 3072 ∧ qo 1 c = 2048 ∧ qo 2 c = 1024 ∧ qo 3 c = 0) := by
  revert c; decide +kernel

/-- The sum of a row over the half a device computes. -/
theorem sloc_at (h : Holds m A B) (c : Dev nD) (r : Fin 256) :
    sloc m c (ix2 r 0) = ∑ n ∈ Finset.range 4096, E A B r (hOwn c + n) := by
  have h0 := qo_lt 0 c
  have h1 := qo_lt 1 c
  have h2 := qo_lt 2 c
  have h3 := qo_lt 3 c
  have hk (k : Fin 4) (e : Fin 256 → EReal) (he : ∀ j, e j = el (xb m c) (wblk m c (ck 0 k c) 256) r j) :
      ∑ j, e j = ∑ n ∈ Finset.range 256, E A B r (hOwn c + (qo 0 c + (256 * k.val + n))) := by
    refine (sum_block h c (ck 0 k c) 256 r (by have := k.isLt; have := qo_div 0 c; unfold ck; omega) e he).trans ?_
    refine Finset.sum_congr rfl fun n _ => ?_
    unfold ck
    rw [Nat.add_assoc (qo 0 c)]
  have hq (q : Fin 4) (hl : qo q c + 1024 ≤ 4096) (e : Fin 1024 → EReal) (he : ∀ j, e j = el (xb m c) (wblk m c (qo q c) 1024) r j) :
      ∑ j, e j = ∑ n ∈ Finset.range 1024, E A B r (hOwn c + (qo q c + n)) := sum_block h c (qo q c) 1024 r hl e he
  have d0 := qo_div 0 c
  have d1 := qo_div 1 c
  have d2 := qo_div 2 c
  have d3 := qo_div 3 c
  unfold sloc sum6 sum5 sum3
  rw [pay24_at, pay20_at, pay17_at, pay12_at, pay9_at, pay6_at, pay2_at, zero_add, hk 0 _ (fun j => pay3_at _ _ r j),
    hk 1 _ (fun j => pay7_at _ _ r j), hk 2 _ (fun j => pay10_at _ _ r j), hk 3 _ (fun j => pay13_at _ _ r j),
    hq 3 (by omega) _ (fun j => pay15_at _ _ r j), hq 1 (by omega) _ (fun j => pay18_at _ _ r j),
    hq 2 (by omega) _ (fun j => pay22_at _ _ r j)]
  have e0 := Softmax.sum_chunks fun n => E A B r (hOwn c + (qo 0 c + n))
  have e := Softmax.sum_quarters fun n => E A B r (hOwn c + n)
  refine Eq.trans ?_ e
  refine (congrArg (fun s => s + (∑ n ∈ Finset.range 1024, E A B r (hOwn c + (qo 3 c + n)))
    + (∑ n ∈ Finset.range 1024, E A B r (hOwn c + (qo 1 c + n))) + (∑ n ∈ Finset.range 1024, E A B r (hOwn c + (qo 2 c + n)))) e0).trans ?_
  rcases qo_cases c with ⟨a0, a1, a2, a3⟩ | ⟨a0, a1, a2, a3⟩ | ⟨a0, a1, a2, a3⟩ | ⟨a0, a1, a2, a3⟩ <;> rw [a0, a1, a2, a3] <;> ac_rfl

/-- The two halves of a row, in the order a device meets them. -/
theorem both_halves (c : Dev nD) (f : ℕ → EReal) :
    (∑ n ∈ Finset.range 4096, f (hOwn c + n)) + (∑ n ∈ Finset.range 4096, f (hRem c + n)) = ∑ n : Fin 8192, f n.val := by
  have hc : (hOwn c = 0 ∧ hRem c = 4096) ∨ (hOwn c = 4096 ∧ hRem c = 0) := by revert c; decide +kernel
  rcases hc with ⟨a, b⟩ | ⟨a, b⟩ <;> rw [a, b, ← Softmax.sum_halves f] <;> simp only [zero_add]
  exact add_comm _ _

/-- The factor a row is scaled by. -/
theorem recip_at (h : Holds m A B) (c : Dev nD) (r : Fin 256) :
    inv m c (ix2 (n0 := 256) (n1 := 1) r 0) = Ideal.div 1 (∑ n : Fin 8192, E A B r n.val) := by
  refine (pay26_at _ _ r).trans ?_
  have e : colBlock (st m (py c)) 0 1 (ix2 (n0 := 256) (n1 := 1) r 0) = sloc m (py c) (ix2 r 0) := pay25_at _ r _
  rw [e, sloc_at h, sloc_at h, hOwn_py, both_halves c (E A B r)]

/-- The result, on every device. -/
theorem O_at (h : Holds m A B) (c : Dev nD) (r : Fin 256) (n : Fin 8192) :
    O m c (ix2 (n0 := 256) (n1 := 8192) r n) = E A B r n.val * Ideal.div 1 (∑ j : Fin 8192, E A B r j.val) := by
  have hn := n.isLt
  have hv : (Fin.ofNat 4096 (n.val % 4096) : Fin 4096).val = n.val % 4096 := Nat.mod_eq_of_lt (Nat.mod_lt _ (by decide))
  have hc : (hOwn c = 0 ∧ hRem c = 4096) ∨ (hOwn c = 4096 ∧ hRem c = 0) := by revert c; decide +kernel
  show Oat m c r n.val = _
  unfold Oat
  split
  · rename_i hd
    show S m c (ix2 (n0 := 256) (n1 := 4096) r _) * inv m c (ix2 (n0 := 256) (n1 := 1) r 0) = _
    rw [recip_at h]
    refine congrArg (· * _) ((Sat_at h c r _ (Fin.isLt _)).trans ?_)
    show E A B r (hOwn c + (Fin.ofNat 4096 (n.val % 4096) : Fin 4096).val) = _
    rw [hv, show hOwn c + n.val % 4096 = n.val by rcases hc with ⟨a, _⟩ | ⟨a, _⟩ <;> rw [a] at hd ⊢ <;> omega]
  · rename_i hd
    show R m c (ix2 (n0 := 256) (n1 := 4096) r _) * inv m c (ix2 (n0 := 256) (n1 := 1) r 0) = _
    rw [recip_at h, R_at h, hv, show hRem c + n.val % 4096 = n.val by
      rcases hc with ⟨a, b⟩ | ⟨a, b⟩ <;> rw [a] at hd <;> rw [b] <;> omega]

end Cert.KernelIdeal.K

end

end
-- ==== Proof.RefValue.lean ====
/-
The reference at an index: the softmax with the row's greatest logit taken off.
-/
module

public import proofs.«01_k».proof.Proof.Gen.ReferenceIdeal
public import proofs.«01_k».proof.Proof.Softmax
public import Idealize.ShloMosaic.Lib.Pointwise

@[expose] public section

set_option maxRecDepth 16384

noncomputable section

namespace Cert.ReferenceIdeal.Value

open Cert.ReferenceIdeal Cert.ReferenceIdeal.Gen
open Idealize.ShloMosaic

/-- The reference's logits. -/
def logits (x : FVec Ideal S256x512 .f32) (W : FVec Ideal S512x8192 .f32) : FVec Ideal S256x8192 .f32 :=
  Host.dotGeneral dot_S256x512_S512x8192_S256x8192_1_0_0_1_n_n none x W

/-- The greatest of each row. -/
def rowMax (L : FVec Ideal S256x8192 .f32) : FVec Ideal S256 .f32 :=
  Host.reduce FloatOps.maximumf L (constant S_ .f32 0xFF800000#32) reducesTo_S256x8192_S256_d1 h_S_

/-- The exponentials of the logits, the row's greatest taken off. -/
def expo (L : FVec Ideal S256x8192 .f32) : FVec Ideal S256x8192 .f32 :=
  Host.exp (subf L (broadcastInDim S256x8192 ![0, 1] bcast_S256x1_S256x8192_0_1 (broadcastInDim S256x1 ![0] bcast_S256_S256x1_0 (rowMax L))))

/-- The reference's result. -/
def result (L : FVec Ideal S256x8192 .f32) : FVec Ideal S256x8192 .bf16 :=
  truncf .bf16 (Host.divf (expo L) (broadcastInDim S256x8192 ![0, 1] bcast_S256x1_S256x8192_0_1 (broadcastInDim S256x1 ![0] bcast_S256_S256x1_0
    (Host.reduceAdd (expo L) (constant S_ .f32 0x00000000#32) reducesTo_S256x8192_S256_d1 h_S_)))) bitsLt_bf16_f32

theorem ofBits_neg_inf_f32 : Ideal.ofBits .f32 0xFF800000#32 = ⊥ := by simp [Ideal.ofBits, Ideal.ieee]

theorem logits_at (x : FVec Ideal S256x512 .f32) (W : FVec Ideal S512x8192 .f32) (r : Fin 256) (n : Fin 8192) :
    logits x W (ix2 r n) = ∑ k : Fin 512, x (ix2 r k) * W (ix2 k n) := by pointwise [logits]

theorem rowMax_at (L : FVec Ideal S256x8192 .f32) (r : Fin 256) :
    rowMax L (ix1 r) = Finset.univ.fold max ⊥ fun n : Fin 8192 => L (ix2 r n) := by
  pointwise [rowMax]
  rw [ofBits_neg_inf_f32]

theorem expo_at (L : FVec Ideal S256x8192 .f32) (r : Fin 256) (n : Fin 8192) :
    expo L (ix2 r n) = Ideal.exp (L (ix2 r n) - rowMax L (ix1 r)) := by pointwise [expo]

theorem result_at (L : FVec Ideal S256x8192 .f32) (r : Fin 256) (n : Fin 8192) :
    result L (ix2 r n) = Ideal.div (expo L (ix2 r n)) (∑ j : Fin 8192, expo L (ix2 r j)) := by pointwise [result]

/-- Over finite logits the reference is the exponential times the reciprocal of the row's sum of exponentials. -/
theorem result_eq (L : FVec Ideal S256x8192 .f32) (r : Fin 256) (hL : ∀ n : Fin 8192, Softmax.Real? (L (ix2 r n))) (n : Fin 8192) :
    result L (ix2 r n) = Ideal.exp (L (ix2 r n)) * Ideal.div 1 (∑ j : Fin 8192, Ideal.exp (L (ix2 r j))) := by
  haveI : Nonempty (Fin 8192) := ⟨0⟩
  rw [result_at, expo_at, Finset.sum_congr rfl fun j _ => expo_at L r j]
  refine (Softmax.softmax_eq (l := fun j : Fin 8192 => L (ix2 r j)) hL ?_ n).symm
  rw [rowMax_at]
  exact Softmax.real_fold_max _ Finset.univ_nonempty hL

end Cert.ReferenceIdeal.Value

end

end
-- ==== Proof.lean ====
/-
The two-shot softmax of eight devices: the claims. The run of the kernel is Proof/Launch.lean `run_main`, for any float values; its
result at the extended reals is Proof/Values.lean `O_at`, the reference's Proof/RefValue.lean `result_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Values
public import proofs.«01_k».proof.Proof.RefValue
public import Idealize.ShloMosaic.Adequacy
public import Idealize.ShloMosaic.Init

@[expose] public section

noncomputable section

namespace Cert.Proof

open Idealize.ShloMosaic Idealize.SL.Sem

/-- The kernel as compiled: it ends, keeps its arguments and leaves every counter at zero. -/
theorem frame_kernel : Cert.quiescent_Kernel := fun m ρ _ =>
  (θ_run Cert.KernelIdeal.defs _ _).mono (fun _ h => ⟨fun c => ⟨(h.1 c).1, (h.1 c).2.1⟩, h.2⟩) (Cert.KernelIdeal.K.run_main (F := Bits) m ρ)

/-- The same program read at the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.K.run_main (F := Ideal) m ρ)

/-- The reference, a straight line of host operations without a semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- The side conditions of the precondition, as read of a device's blocks and of the reference's arguments. -/
instance facts_pre : Cert.Pre_finite_inputs_KernelIdeal.Facts := ⟨by decide, by decide⟩
instance facts_pre_reference : Cert.Pre_finite_inputs_ReferenceIdeal.Facts := ⟨by decide, by decide⟩

theorem ofBits_inf_f32 : Ideal.ofBits .f32 0x7F800000#32 = ⊤ := by simp [Ideal.ofBits, Ideal.ieee]

/-- Where the comparison of an absolute value with infinity holds, the value is a real number. -/
theorem real_of_cmp {x : EReal} (h : FloatOps.cmpf (F := Ideal) (φ := .f32) .olt (max x (-x)) (Ideal.ofBits .f32 0x7F800000#32) = 1#1) :
    Softmax.Real? x := by
  rw [ofBits_inf_f32] at h
  refine Softmax.real_of_abs_lt ?_
  by_contra hn
  have e : FloatOps.cmpf (F := Ideal) (φ := .f32) .olt (max x (-x)) (⊤ : EReal) = 0#1 := by
    show Ideal.cmp .olt (max x (-x)) (⊤ : EReal) = 0#1
    simp [Ideal.cmp, hn]
  rw [e] at h
  exact absurd h (by decide)

section Value

variable {m : (ℓ : Loc Cert.KernelIdeal.nD Cert.KernelIdeal.τ Cert.KernelIdeal.sig) → Buf (Elt Ideal) ℓ}

/-- The precondition, of the activations and of the weights on each device. -/
theorem real_x (hp : Cert.Pre_KernelIdeal_finite_inputs_KernelIdeal m) (c : Dev Cert.KernelIdeal.nD) (i : Shape.Idx ⟨2, ![256, 512]⟩) :
    Softmax.Real? (Cert.KernelIdeal.K.X m c i) := real_of_cmp (congrFun (hp c).1 i)
theorem real_w (hp : Cert.Pre_KernelIdeal_finite_inputs_KernelIdeal m) (c : Dev Cert.KernelIdeal.nD) (i : Shape.Idx ⟨2, ![512, 4096]⟩) :
    Softmax.Real? (Cert.KernelIdeal.K.Wt m c i) := real_of_cmp (congrFun (hp c).2 i)

/-- The column of the weights that a device's column is. -/
theorem block_at (W : Vec Ideal ⟨2, ![512, 8192]⟩ .f32) (c : Dev Cert.KernelIdeal.nD) (k : Fin 512) (n : Fin 4096) :
    Layout.blockN ⟨2, ![512, 4096]⟩ ⟨2, ![512, 8192]⟩ (Layout.meshBlock [2, 2, 2] ![[], [1]] c) W (by decide) (ix2 (n0 := 512) (n1 := 4096) k n)
      = W (ix2 (n0 := 512) (n1 := 8192) k (Fin.ofNat 8192 (Cert.KernelIdeal.K.hOwn c + n.val))) := by
  rw [Layout.blockN_apply]
  refine congrArg W (funext fun b => Fin.ext ?_)
  rw [Layout.TilesN.idx_val]
  have hn := n.isLt
  have hk := k.isLt
  revert b
  rw [Fin.forall_fin_two]
  constructor
  · show 0 * 512 + k.val = k.val
    omega
  · show Layout.meshLin [2, 2, 2] c.val [1] * 4096 + n.val = (Cert.KernelIdeal.K.hOwn c + n.val) % 8192
    have hc : Layout.meshLin [2, 2, 2] c.val [1] * 4096 = Cert.KernelIdeal.K.hOwn c ∧ Cert.KernelIdeal.K.hOwn c ≤ 4096 := by
      revert c; decide +kernel
    omega

end Value

/-- Over finite inputs every device's result is the reference's. -/
theorem algebraic : Cert.algebraic_KernelIdeal_ReferenceIdeal_pre_finite_inputs_KernelIdeal := by
  intro m g m' g' hp ha
  let x : FVec Ideal ⟨2, ![256, 512]⟩ .f32 :=
    m' (((0 : Dev Cert.ReferenceIdeal.nD).tc : Thread Cert.ReferenceIdeal.nD Cert.ReferenceIdeal.τ).loc Cert.ReferenceIdeal.main_arg0)
  let W : FVec Ideal ⟨2, ![512, 8192]⟩ .f32 :=
    m' (((0 : Dev Cert.ReferenceIdeal.nD).tc : Thread Cert.ReferenceIdeal.nD Cert.ReferenceIdeal.τ).loc Cert.ReferenceIdeal.main_arg1)
  have hold : Cert.KernelIdeal.K.Holds m (fun r k => x (ix2 r k)) (fun k n => W (ix2 k (Fin.ofNat 8192 n))) :=
    ⟨fun c r k => congrFun (ha c).1 _, fun c k n => (congrFun (ha c).2 _).trans (block_at W c k n)⟩
  have hx (r : Fin 256) (k : Fin 512) : Softmax.Real? (x (ix2 r k)) := by
    rw [← hold.x 0 r k]; exact real_x hp 0 _
  have hW (k : Fin 512) (n : Fin 8192) : Softmax.Real? (W (ix2 k n)) := by
    have hn := n.isLt
    have hv : (Fin.ofNat 8192 n.val : Fin 8192) = n := Fin.ext (Nat.mod_eq_of_lt hn)
    by_cases h : n.val < 4096
    · have e := hold.w (0 : Dev Cert.KernelIdeal.nD) k ⟨n.val, h⟩
      rw [show Cert.KernelIdeal.K.hOwn (0 : Dev Cert.KernelIdeal.nD) + n.val = n.val from Nat.zero_add _, hv] at e
      rw [← e]; exact real_w hp _ _
    · have e := hold.w (2 : Dev Cert.KernelIdeal.nD) k ⟨n.val - 4096, by omega⟩
      rw [show Cert.KernelIdeal.K.hOwn (2 : Dev Cert.KernelIdeal.nD) + (n.val - 4096) = n.val by
        rw [show Cert.KernelIdeal.K.hOwn (2 : Dev Cert.KernelIdeal.nD) = 4096 from by decide]; omega, hv] at e
      rw [← e]; exact real_w hp _ _
  have hL (r : Fin 256) (n : Fin 8192) : Softmax.Real? (Cert.ReferenceIdeal.Value.logits x W (ix2 r n)) := by
    rw [Cert.ReferenceIdeal.Value.logits_at]
    exact Softmax.real_sum _ fun k => Softmax.real_mul (hx r k) (hW k n)
  have hE (r : Fin 256) (n : Fin 8192) :
      Cert.KernelIdeal.K.E (fun r k => x (ix2 r k)) (fun k n => W (ix2 k (Fin.ofNat 8192 n))) r n.val
        = Ideal.exp (Cert.ReferenceIdeal.Value.logits x W (ix2 r n)) := by
    rw [Cert.ReferenceIdeal.Value.logits_at]
    unfold Cert.KernelIdeal.K.E
    refine congrArg Ideal.exp (Finset.sum_congr rfl fun k _ => ?_)
    show x (ix2 r k) * W (ix2 k (Fin.ofNat 8192 n.val : Fin 8192)) = _
    rw [show (Fin.ofNat 8192 n.val : Fin 8192) = n from Fin.ext (Nat.mod_eq_of_lt n.isLt)]
  have hO (c : Dev Cert.KernelIdeal.nD) :
      Cert.KernelIdeal.K.O m c = Cert.ReferenceIdeal.Value.result (Cert.ReferenceIdeal.Value.logits x W) := by
    have at_ix (r : Fin 256) (n : Fin 8192) : Cert.KernelIdeal.K.O m c (ix2 (n0 := 256) (n1 := 8192) r n)
        = Cert.ReferenceIdeal.Value.result (Cert.ReferenceIdeal.Value.logits x W) (ix2 (n0 := 256) (n1 := 8192) r n) := by
      rw [Cert.KernelIdeal.K.O_at hold c, Cert.ReferenceIdeal.Value.result_eq _ _ (hL _) _, hE, Finset.sum_congr rfl fun j _ => hE r j]
    funext i
    rw [← ix2_eta (n0 := 256) (n1 := 8192) i]
    exact at_ix (i 0) (i 1)
  refine ⟨Cert.ReferenceIdeal.Value.result (Cert.ReferenceIdeal.Value.logits x W), ?_, ?_⟩
  · exact (θ_run Cert.KernelIdeal.defs _ _).mono (fun _ h c => ⟨(h.1 c).2.2.trans (hO c), (h.1 c).1, (h.1 c).2.1⟩)
      (Cert.KernelIdeal.K.run_main (F := Ideal) m g)
  · exact (θ_run Cert.ReferenceIdeal.defs _ _).mono (fun _ h => h 0) (Cert.ReferenceIdeal.Value.run (F := Ideal) m' g')

/-- The claims. -/
theorem claim : Cert.Claim :=
  ⟨Cert.Kernel.Gen.facts, Cert.KernelIdeal.Gen.facts, Cert.ReferenceIdeal.Gen.facts, facts_pre, facts_pre_reference, frame_kernel, frame_kernelIdeal, fun m ρ _ => frame_kernelIdeal m ρ trivial,
    frame_reference,
    fun m ρ _ => frame_reference m ρ trivial, trivial, algebraic⟩

end Cert.Proof

end

end
